-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v337)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v337) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S256x64x64x1 : Shape := ⟨4, ![256, 64, 64, 1]⟩
abbrev S3x3x1x64 : Shape := ⟨4, ![3, 3, 1, 64]⟩
abbrev S64 : Shape := ⟨1, ![64]⟩
abbrev S3x3x64x32 : Shape := ⟨4, ![3, 3, 64, 32]⟩
abbrev S32 : Shape := ⟨1, ![32]⟩
abbrev S_ : Shape := ⟨0, ![]⟩

class Facts : Prop where
  bcast_S_S256x64x64x1 : S_.BroadcastsInDim S256x64x64x1 (![] : Fin 0 → Fin S256x64x64x1.rank)
  bcast_S_S3x3x1x64 : S_.BroadcastsInDim S3x3x1x64 (![] : Fin 0 → Fin S3x3x1x64.rank)
  bcast_S_S3x3x64x32 : S_.BroadcastsInDim S3x3x64x32 (![] : Fin 0 → Fin S3x3x64x32.rank)

variable [Facts]

def fn {F : FTy → Type} [FloatOps F] (main_arg0 : FVec F S256x64x64x1 .f32) (main_arg1 : FVec F S3x3x1x64 .f32) (main_arg2 : FVec F S64 .f32) (main_arg3 : FVec F S3x3x64x32 .f32) (main_arg4 : FVec F S32 .f32) : IVec S256x64x64x1 1 × IVec S3x3x1x64 1 × IVec S3x3x64x32 1 :=
  let main_v0 : FVec F S256x64x64x1 .f32 := Host.absf main_arg0
  let main_cst : FVec F S_ .f32 := constant S_ .f32 0x7F800000#32
  let main_v1 : FVec F S256x64x64x1 .f32 := broadcastInDim S256x64x64x1 ![] bcast_S_S256x64x64x1 main_cst
  let main_v2 : IVec S256x64x64x1 1 := cmpf .olt main_v0 main_v1
  let main_v3 : FVec F S3x3x1x64 .f32 := Host.absf main_arg1
  let main_cst_0 : FVec F S_ .f32 := constant S_ .f32 0x7F800000#32
  let main_v4 : FVec F S3x3x1x64 .f32 := broadcastInDim S3x3x1x64 ![] bcast_S_S3x3x1x64 main_cst_0
  let main_v5 : IVec S3x3x1x64 1 := cmpf .olt main_v3 main_v4
  let main_v6 : FVec F S3x3x64x32 .f32 := Host.absf main_arg3
  let main_cst_1 : FVec F S_ .f32 := constant S_ .f32 0x7F800000#32
  let main_v7 : FVec F S3x3x64x32 .f32 := broadcastInDim S3x3x64x32 ![] bcast_S_S3x3x64x32 main_cst_1
  let main_v8 : IVec S3x3x64x32 1 := cmpf .olt main_v6 main_v7
  (main_v2, main_v5, main_v8)
-- ==== Kernel.lean ====
abbrev S256x64x64x1 : Shape := ⟨4, ![256, 64, 64, 1]⟩
abbrev S3x3x1x64 : Shape := ⟨4, ![3, 3, 1, 64]⟩
abbrev S64 : Shape := ⟨1, ![64]⟩
abbrev S3x3x64x32 : Shape := ⟨4, ![3, 3, 64, 32]⟩
abbrev S32 : Shape := ⟨1, ![32]⟩
abbrev S256x4096 : Shape := ⟨2, ![256, 4096]⟩
abbrev S_ : Shape := ⟨0, ![]⟩
abbrev S256x4608 : Shape := ⟨2, ![256, 4608]⟩
abbrev S9x64x32 : Shape := ⟨3, ![9, 64, 32]⟩
abbrev S9x64 : Shape := ⟨2, ![9, 64]⟩
abbrev S9x32x9 : Shape := ⟨3, ![9, 32, 9]⟩
abbrev S32x9x9 : Shape := ⟨3, ![32, 9, 9]⟩
abbrev S9x32 : Shape := ⟨2, ![9, 32]⟩
abbrev S32x9x16 : Shape := ⟨3, ![32, 9, 16]⟩
abbrev S1 : Shape := ⟨1, ![1]⟩
abbrev S32x9 : Shape := ⟨2, ![32, 9]⟩
abbrev S2 : Shape := ⟨1, ![2]⟩
abbrev S32x144 : Shape := ⟨2, ![32, 144]⟩
abbrev S4352 : Shape := ⟨1, ![4352]⟩
abbrev S1x4352 : Shape := ⟨2, ![1, 4352]⟩
abbrev S64x1 : Shape := ⟨2, ![64, 1]⟩
abbrev S1x64 : Shape := ⟨2, ![1, 64]⟩
abbrev S64x64 : Shape := ⟨2, ![64, 64]⟩
abbrev S4096 : Shape := ⟨1, ![4096]⟩
abbrev S1x4096 : Shape := ⟨2, ![1, 4096]⟩
abbrev S10x4096 : Shape := ⟨2, ![10, 4096]⟩
abbrev S256x32x4096 : Shape := ⟨3, ![256, 32, 4096]⟩
abbrev S32x4608 : Shape := ⟨2, ![32, 4608]⟩
abbrev S32x32x4096 : Shape := ⟨3, ![32, 32, 4096]⟩
abbrev S9x139264 : Shape := ⟨2, ![9, 139264]⟩
abbrev S4x144x4096 : Shape := ⟨3, ![4, 144, 4096]⟩
abbrev S1x1x4096 : Shape := ⟨3, ![1, 1, 4096]⟩
abbrev S1x2x4096 : Shape := ⟨3, ![1, 2, 4096]⟩
abbrev S9x4352 : Shape := ⟨2, ![9, 4352]⟩
abbrev S9x4096 : Shape := ⟨2, ![9, 4096]⟩
abbrev S1x9x4096 : Shape := ⟨3, ![1, 9, 4096]⟩
abbrev S1x10x4096 : Shape := ⟨3, ![1, 10, 4096]⟩
abbrev S1x144x4096 : Shape := ⟨3, ![1, 144, 4096]⟩
abbrev S144x4096 : Shape := ⟨2, ![144, 4096]⟩
abbrev S32x4096 : Shape := ⟨2, ![32, 4096]⟩
abbrev S1x32x4096 : Shape := ⟨3, ![1, 32, 4096]⟩
abbrev S256x32x64x64 : Shape := ⟨4, ![256, 32, 64, 64]⟩

abbrev nBuf : Space → Nat
  | .hbm => 484
  | .vmem => 9
  | .smem => 0
  | _ => 0

abbrev hbmTy0_0 (i : Nat) : BufTy := match i % 128 with
  | 0 => ⟨S256x64x64x1, .f32⟩
  | 1 => ⟨S3x3x1x64, .f32⟩
  | 2 => ⟨S64, .f32⟩
  | 3 => ⟨S3x3x64x32, .f32⟩
  | 4 => ⟨S32, .f32⟩
  | 5 => ⟨S256x4096, .f32⟩
  | 6 => ⟨S_, .i32⟩
  | 7 => ⟨S_, .f32⟩
  | 8 => ⟨S256x4608, .f32⟩
  | 9 => ⟨S256x4608, .bf16⟩
  | 10 => ⟨S9x64x32, .f32⟩
  | 11 => ⟨S9x64, .f32⟩
  | 12 => ⟨S9x32x9, .f32⟩
  | 13 => ⟨S32x9x9, .f32⟩
  | 14 => ⟨S9x32, .f32⟩
  | 15 => ⟨S_, .f32⟩
  | 16 => ⟨S32x9x16, .f32⟩
  | 17 => ⟨S_, .i32⟩
  | 18 => ⟨S1, .i32⟩
  | 19 => ⟨S32x9x16, .f32⟩
  | 20 => ⟨S32x9, .f32⟩
  | 21 => ⟨S_, .i32⟩
  | 22 => ⟨S1, .i32⟩
  | 23 => ⟨S32x9x16, .f32⟩
  | 24 => ⟨S_, .i32⟩
  | 25 => ⟨S1, .i32⟩
  | 26 => ⟨S_, .i32⟩
  | 27 => ⟨S1, .i32⟩
  | 28 => ⟨S2, .i32⟩
  | 29 => ⟨S32x9x16, .f32⟩
  | 30 => ⟨S32x144, .f32⟩
  | 31 => ⟨S32x144, .bf16⟩
  | 32 => ⟨S4352, .i32⟩
  | 33 => ⟨S_, .i32⟩
  | 34 => ⟨S4352, .i32⟩
  | 35 => ⟨S4352, .i1⟩
  | 36 => ⟨S_, .i32⟩
  | 37 => ⟨S4352, .i32⟩
  | 38 => ⟨S4352, .i1⟩
  | 39 => ⟨S4352, .i1⟩
  | 40 => ⟨S_, .i32⟩
  | 41 => ⟨S4352, .i32⟩
  | 42 => ⟨S4352, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S4352, .i32⟩
  | 50 => ⟨S4352, .i32⟩
  | 51 => ⟨S_, .i32⟩
  | 52 => ⟨S4352, .i32⟩
  | 53 => ⟨S4352, .i1⟩
  | 54 => ⟨S_, .i32⟩
  | 55 => ⟨S4352, .i32⟩
  | 56 => ⟨S4352, .i1⟩
  | 57 => ⟨S_, .i32⟩
  | 58 => ⟨S_, .i1⟩
  | 59 => ⟨S4352, .i1⟩
  | 60 => ⟨S4352, .i1⟩
  | 61 => ⟨S4352, .i1⟩
  | 62 => ⟨S4352, .i32⟩
  | 63 => ⟨S4352, .i32⟩
  | 64 => ⟨S4352, .i32⟩
  | 65 => ⟨S_, .i32⟩
  | 66 => ⟨S4352, .i32⟩
  | 67 => ⟨S4352, .i1⟩
  | 68 => ⟨S4352, .i1⟩
  | 69 => ⟨S4352, .bf16⟩
  | 70 => ⟨S1x4352, .bf16⟩
  | 71 => ⟨S64, .i32⟩
  | 72 => ⟨S_, .i32⟩
  | 73 => ⟨S64, .i32⟩
  | 74 => ⟨S64, .i32⟩
  | 75 => ⟨S_, .i32⟩
  | 76 => ⟨S64, .i32⟩
  | 77 => ⟨S64, .i32⟩
  | 78 => ⟨S_, .i32⟩
  | 79 => ⟨S64, .i32⟩
  | 80 => ⟨S64, .i1⟩
  | 81 => ⟨S_, .i32⟩
  | 82 => ⟨S64, .i32⟩
  | 83 => ⟨S64, .i32⟩
  | 84 => ⟨S_, .i32⟩
  | 85 => ⟨S64, .i32⟩
  | 86 => ⟨S64, .i32⟩
  | 87 => ⟨S_, .i32⟩
  | 88 => ⟨S64, .i32⟩
  | 89 => ⟨S64, .i1⟩
  | 90 => ⟨S64, .i1⟩
  | 91 => ⟨S_, .i32⟩
  | 92 => ⟨S64, .i32⟩
  | 93 => ⟨S64, .i32⟩
  | 94 => ⟨S_, .i32⟩
  | 95 => ⟨S64, .i32⟩
  | 96 => ⟨S64, .i32⟩
  | 97 => ⟨S_, .i32⟩
  | 98 => ⟨S64, .i32⟩
  | 99 => ⟨S64, .i1⟩
  | 100 => ⟨S_, .i32⟩
  | 101 => ⟨S64, .i32⟩
  | 102 => ⟨S64, .i32⟩
  | 103 => ⟨S_, .i32⟩
  | 104 => ⟨S64, .i32⟩
  | 105 => ⟨S64, .i32⟩
  | 106 => ⟨S_, .i32⟩
  | 107 => ⟨S64, .i32⟩
  | 108 => ⟨S64, .i1⟩
  | 109 => ⟨S64, .i1⟩
  | 110 => ⟨S64x1, .i1⟩
  | 111 => ⟨S1x64, .i1⟩
  | 112 => ⟨S64x64, .i1⟩
  | 113 => ⟨S64x64, .i1⟩
  | 114 => ⟨S64x64, .i1⟩
  | 115 => ⟨S4096, .i1⟩
  | 116 => ⟨S_, .i32⟩
  | 117 => ⟨S64, .i32⟩
  | 118 => ⟨S64, .i32⟩
  | 119 => ⟨S_, .i32⟩
  | 120 => ⟨S64, .i32⟩
  | 121 => ⟨S64, .i32⟩
  | 122 => ⟨S_, .i32⟩
  | 123 => ⟨S64, .i32⟩
  | 124 => ⟨S64, .i1⟩
  | 125 => ⟨S_, .i32⟩
  | 126 => ⟨S64, .i32⟩
  | 127 => ⟨S64, .i32⟩
  | _ => ⟨S256x64x64x1, .f32⟩

abbrev hbmTy0_1 (i : Nat) : BufTy := match i % 128 with
  | 0 => ⟨S_, .i32⟩
  | 1 => ⟨S64, .i32⟩
  | 2 => ⟨S64, .i32⟩
  | 3 => ⟨S_, .i32⟩
  | 4 => ⟨S64, .i32⟩
  | 5 => ⟨S64, .i1⟩
  | 6 => ⟨S64, .i1⟩
  | 7 => ⟨S_, .i32⟩
  | 8 => ⟨S64, .i32⟩
  | 9 => ⟨S64, .i32⟩
  | 10 => ⟨S_, .i32⟩
  | 11 => ⟨S64, .i32⟩
  | 12 => ⟨S64, .i32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i1⟩
  | 25 => ⟨S64, .i1⟩
  | 26 => ⟨S64x1, .i1⟩
  | 27 => ⟨S1x64, .i1⟩
  | 28 => ⟨S64x64, .i1⟩
  | 29 => ⟨S64x64, .i1⟩
  | 30 => ⟨S64x64, .i1⟩
  | 31 => ⟨S4096, .i1⟩
  | 32 => ⟨S_, .i32⟩
  | 33 => ⟨S64, .i32⟩
  | 34 => ⟨S64, .i32⟩
  | 35 => ⟨S_, .i32⟩
  | 36 => ⟨S64, .i32⟩
  | 37 => ⟨S64, .i32⟩
  | 38 => ⟨S_, .i32⟩
  | 39 => ⟨S64, .i32⟩
  | 40 => ⟨S64, .i1⟩
  | 41 => ⟨S_, .i32⟩
  | 42 => ⟨S64, .i32⟩
  | 43 => ⟨S64, .i32⟩
  | 44 => ⟨S_, .i32⟩
  | 45 => ⟨S64, .i32⟩
  | 46 => ⟨S64, .i32⟩
  | 47 => ⟨S_, .i32⟩
  | 48 => ⟨S64, .i32⟩
  | 49 => ⟨S64, .i1⟩
  | 50 => ⟨S64, .i1⟩
  | 51 => ⟨S_, .i32⟩
  | 52 => ⟨S64, .i32⟩
  | 53 => ⟨S64, .i32⟩
  | 54 => ⟨S_, .i32⟩
  | 55 => ⟨S64, .i32⟩
  | 56 => ⟨S64, .i32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S_, .i32⟩
  | 64 => ⟨S64, .i32⟩
  | 65 => ⟨S64, .i32⟩
  | 66 => ⟨S_, .i32⟩
  | 67 => ⟨S64, .i32⟩
  | 68 => ⟨S64, .i1⟩
  | 69 => ⟨S64, .i1⟩
  | 70 => ⟨S64x1, .i1⟩
  | 71 => ⟨S1x64, .i1⟩
  | 72 => ⟨S64x64, .i1⟩
  | 73 => ⟨S64x64, .i1⟩
  | 74 => ⟨S64x64, .i1⟩
  | 75 => ⟨S4096, .i1⟩
  | 76 => ⟨S_, .i32⟩
  | 77 => ⟨S64, .i32⟩
  | 78 => ⟨S64, .i32⟩
  | 79 => ⟨S_, .i32⟩
  | 80 => ⟨S64, .i32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S_, .i32⟩
  | 89 => ⟨S64, .i32⟩
  | 90 => ⟨S64, .i32⟩
  | 91 => ⟨S_, .i32⟩
  | 92 => ⟨S64, .i32⟩
  | 93 => ⟨S64, .i1⟩
  | 94 => ⟨S64, .i1⟩
  | 95 => ⟨S_, .i32⟩
  | 96 => ⟨S64, .i32⟩
  | 97 => ⟨S64, .i32⟩
  | 98 => ⟨S_, .i32⟩
  | 99 => ⟨S64, .i32⟩
  | 100 => ⟨S64, .i32⟩
  | 101 => ⟨S_, .i32⟩
  | 102 => ⟨S64, .i32⟩
  | 103 => ⟨S64, .i1⟩
  | 104 => ⟨S_, .i32⟩
  | 105 => ⟨S64, .i32⟩
  | 106 => ⟨S64, .i32⟩
  | 107 => ⟨S_, .i32⟩
  | 108 => ⟨S64, .i32⟩
  | 109 => ⟨S64, .i32⟩
  | 110 => ⟨S_, .i32⟩
  | 111 => ⟨S64, .i32⟩
  | 112 => ⟨S64, .i1⟩
  | 113 => ⟨S64, .i1⟩
  | 114 => ⟨S64x1, .i1⟩
  | 115 => ⟨S1x64, .i1⟩
  | 116 => ⟨S64x64, .i1⟩
  | 117 => ⟨S64x64, .i1⟩
  | 118 => ⟨S64x64, .i1⟩
  | 119 => ⟨S4096, .i1⟩
  | 120 => ⟨S_, .i32⟩
  | 121 => ⟨S64, .i32⟩
  | 122 => ⟨S64, .i32⟩
  | 123 => ⟨S_, .i32⟩
  | 124 => ⟨S64, .i32⟩
  | 125 => ⟨S64, .i32⟩
  | 126 => ⟨S_, .i32⟩
  | 127 => ⟨S64, .i32⟩
  | _ => ⟨S256x64x64x1, .f32⟩

abbrev hbmTy0_2 (i : Nat) : BufTy := match i % 128 with
  | 0 => ⟨S64, .i1⟩
  | 1 => ⟨S_, .i32⟩
  | 2 => ⟨S64, .i32⟩
  | 3 => ⟨S64, .i32⟩
  | 4 => ⟨S_, .i32⟩
  | 5 => ⟨S64, .i32⟩
  | 6 => ⟨S64, .i32⟩
  | 7 => ⟨S_, .i32⟩
  | 8 => ⟨S64, .i32⟩
  | 9 => ⟨S64, .i1⟩
  | 10 => ⟨S64, .i1⟩
  | 11 => ⟨S_, .i32⟩
  | 12 => ⟨S64, .i32⟩
  | 13 => ⟨S64, .i32⟩
  | 14 => ⟨S_, .i32⟩
  | 15 => ⟨S64, .i32⟩
  | 16 => ⟨S64, .i32⟩
  | 17 => ⟨S_, .i32⟩
  | 18 => ⟨S64, .i32⟩
  | 19 => ⟨S64, .i1⟩
  | 20 => ⟨S_, .i32⟩
  | 21 => ⟨S64, .i32⟩
  | 22 => ⟨S64, .i32⟩
  | 23 => ⟨S_, .i32⟩
  | 24 => ⟨S64, .i32⟩
  | 25 => ⟨S64, .i32⟩
  | 26 => ⟨S_, .i32⟩
  | 27 => ⟨S64, .i32⟩
  | 28 => ⟨S64, .i1⟩
  | 29 => ⟨S64, .i1⟩
  | 30 => ⟨S64x1, .i1⟩
  | 31 => ⟨S1x64, .i1⟩
  | 32 => ⟨S64x64, .i1⟩
  | 33 => ⟨S64x64, .i1⟩
  | 34 => ⟨S64x64, .i1⟩
  | 35 => ⟨S4096, .i1⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S_, .i32⟩
  | 43 => ⟨S64, .i32⟩
  | 44 => ⟨S64, .i1⟩
  | 45 => ⟨S_, .i32⟩
  | 46 => ⟨S64, .i32⟩
  | 47 => ⟨S64, .i32⟩
  | 48 => ⟨S_, .i32⟩
  | 49 => ⟨S64, .i32⟩
  | 50 => ⟨S64, .i32⟩
  | 51 => ⟨S_, .i32⟩
  | 52 => ⟨S64, .i32⟩
  | 53 => ⟨S64, .i1⟩
  | 54 => ⟨S64, .i1⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S_, .i32⟩
  | 62 => ⟨S64, .i32⟩
  | 63 => ⟨S64, .i1⟩
  | 64 => ⟨S_, .i32⟩
  | 65 => ⟨S64, .i32⟩
  | 66 => ⟨S64, .i32⟩
  | 67 => ⟨S_, .i32⟩
  | 68 => ⟨S64, .i32⟩
  | 69 => ⟨S64, .i32⟩
  | 70 => ⟨S_, .i32⟩
  | 71 => ⟨S64, .i32⟩
  | 72 => ⟨S64, .i1⟩
  | 73 => ⟨S64, .i1⟩
  | 74 => ⟨S64x1, .i1⟩
  | 75 => ⟨S1x64, .i1⟩
  | 76 => ⟨S64x64, .i1⟩
  | 77 => ⟨S64x64, .i1⟩
  | 78 => ⟨S64x64, .i1⟩
  | 79 => ⟨S4096, .i1⟩
  | 80 => ⟨S_, .i32⟩
  | 81 => ⟨S64, .i32⟩
  | 82 => ⟨S64, .i32⟩
  | 83 => ⟨S_, .i32⟩
  | 84 => ⟨S64, .i32⟩
  | 85 => ⟨S64, .i32⟩
  | 86 => ⟨S_, .i32⟩
  | 87 => ⟨S64, .i32⟩
  | 88 => ⟨S64, .i1⟩
  | 89 => ⟨S_, .i32⟩
  | 90 => ⟨S64, .i32⟩
  | 91 => ⟨S64, .i32⟩
  | 92 => ⟨S_, .i32⟩
  | 93 => ⟨S64, .i32⟩
  | 94 => ⟨S64, .i32⟩
  | 95 => ⟨S_, .i32⟩
  | 96 => ⟨S64, .i32⟩
  | 97 => ⟨S64, .i1⟩
  | 98 => ⟨S64, .i1⟩
  | 99 => ⟨S_, .i32⟩
  | 100 => ⟨S64, .i32⟩
  | 101 => ⟨S64, .i32⟩
  | 102 => ⟨S_, .i32⟩
  | 103 => ⟨S64, .i32⟩
  | 104 => ⟨S64, .i32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S_, .i32⟩
  | 112 => ⟨S64, .i32⟩
  | 113 => ⟨S64, .i32⟩
  | 114 => ⟨S_, .i32⟩
  | 115 => ⟨S64, .i32⟩
  | 116 => ⟨S64, .i1⟩
  | 117 => ⟨S64, .i1⟩
  | 118 => ⟨S64x1, .i1⟩
  | 119 => ⟨S1x64, .i1⟩
  | 120 => ⟨S64x64, .i1⟩
  | 121 => ⟨S64x64, .i1⟩
  | 122 => ⟨S64x64, .i1⟩
  | 123 => ⟨S4096, .i1⟩
  | 124 => ⟨S_, .i32⟩
  | 125 => ⟨S64, .i32⟩
  | 126 => ⟨S64, .i32⟩
  | 127 => ⟨S_, .i32⟩
  | _ => ⟨S256x64x64x1, .f32⟩

abbrev hbmTy0_3 (i : Nat) : BufTy := match i % 128 with
  | 0 => ⟨S64, .i32⟩
  | 1 => ⟨S64, .i32⟩
  | 2 => ⟨S_, .i32⟩
  | 3 => ⟨S64, .i32⟩
  | 4 => ⟨S64, .i1⟩
  | 5 => ⟨S_, .i32⟩
  | 6 => ⟨S64, .i32⟩
  | 7 => ⟨S64, .i32⟩
  | 8 => ⟨S_, .i32⟩
  | 9 => ⟨S64, .i32⟩
  | 10 => ⟨S64, .i32⟩
  | 11 => ⟨S_, .i32⟩
  | 12 => ⟨S64, .i32⟩
  | 13 => ⟨S64, .i1⟩
  | 14 => ⟨S64, .i1⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S_, .i32⟩
  | 22 => ⟨S64, .i32⟩
  | 23 => ⟨S64, .i1⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S_, .i32⟩
  | 31 => ⟨S64, .i32⟩
  | 32 => ⟨S64, .i1⟩
  | 33 => ⟨S64, .i1⟩
  | 34 => ⟨S64x1, .i1⟩
  | 35 => ⟨S1x64, .i1⟩
  | 36 => ⟨S64x64, .i1⟩
  | 37 => ⟨S64x64, .i1⟩
  | 38 => ⟨S64x64, .i1⟩
  | 39 => ⟨S4096, .i1⟩
  | 40 => ⟨S_, .i32⟩
  | 41 => ⟨S64, .i32⟩
  | 42 => ⟨S64, .i32⟩
  | 43 => ⟨S_, .i32⟩
  | 44 => ⟨S64, .i32⟩
  | 45 => ⟨S64, .i32⟩
  | 46 => ⟨S_, .i32⟩
  | 47 => ⟨S64, .i32⟩
  | 48 => ⟨S64, .i1⟩
  | 49 => ⟨S_, .i32⟩
  | 50 => ⟨S64, .i32⟩
  | 51 => ⟨S64, .i32⟩
  | 52 => ⟨S_, .i32⟩
  | 53 => ⟨S64, .i32⟩
  | 54 => ⟨S64, .i32⟩
  | 55 => ⟨S_, .i32⟩
  | 56 => ⟨S64, .i32⟩
  | 57 => ⟨S64, .i1⟩
  | 58 => ⟨S64, .i1⟩
  | 59 => ⟨S_, .i32⟩
  | 60 => ⟨S64, .i32⟩
  | 61 => ⟨S64, .i32⟩
  | 62 => ⟨S_, .i32⟩
  | 63 => ⟨S64, .i32⟩
  | 64 => ⟨S64, .i32⟩
  | 65 => ⟨S_, .i32⟩
  | 66 => ⟨S64, .i32⟩
  | 67 => ⟨S64, .i1⟩
  | 68 => ⟨S_, .i32⟩
  | 69 => ⟨S64, .i32⟩
  | 70 => ⟨S64, .i32⟩
  | 71 => ⟨S_, .i32⟩
  | 72 => ⟨S64, .i32⟩
  | 73 => ⟨S64, .i32⟩
  | 74 => ⟨S_, .i32⟩
  | 75 => ⟨S64, .i32⟩
  | 76 => ⟨S64, .i1⟩
  | 77 => ⟨S64, .i1⟩
  | 78 => ⟨S64x1, .i1⟩
  | 79 => ⟨S1x64, .i1⟩
  | 80 => ⟨S64x64, .i1⟩
  | 81 => ⟨S64x64, .i1⟩
  | 82 => ⟨S64x64, .i1⟩
  | 83 => ⟨S4096, .i1⟩
  | 84 => ⟨S_, .i1⟩
  | 85 => ⟨S4096, .i1⟩
  | 86 => ⟨S1x4096, .i1⟩
  | 87 => ⟨S1x4096, .i1⟩
  | 88 => ⟨S1x4096, .i1⟩
  | 89 => ⟨S1x4096, .i1⟩
  | 90 => ⟨S1x4096, .i1⟩
  | 91 => ⟨S1x4096, .i1⟩
  | 92 => ⟨S1x4096, .i1⟩
  | 93 => ⟨S1x4096, .i1⟩
  | 94 => ⟨S1x4096, .i1⟩
  | 95 => ⟨S1x4096, .i1⟩
  | 96 => ⟨S10x4096, .i1⟩
  | 97 => ⟨S10x4096, .bf16⟩
  | 98 => ⟨S256x32x4096, .f32⟩
  | 99 => ⟨S256x32x64x64, .f32⟩
  | _ => ⟨S256x64x64x1, .f32⟩

abbrev hbmTy (i : Nat) : BufTy := match i / 128 with
  | 0 => hbmTy0_0 i
  | 1 => hbmTy0_1 i
  | 2 => hbmTy0_2 i
  | 3 => hbmTy0_3 i
  | _ => ⟨S256x64x64x1, .f32⟩

abbrev bufTy : (tb : Table) → Fin (tcTables nBuf tb) → BufTy
  | .hbm, ⟨i, _⟩ => hbmTy i
  | .local _ .vmem, ⟨0, _⟩ => ⟨S32x4608, .bf16⟩
  | .local _ .vmem, ⟨1, _⟩ => ⟨S32x4608, .bf16⟩
  | .local _ .vmem, ⟨2, _⟩ => ⟨S32x144, .bf16⟩
  | .local _ .vmem, ⟨3, _⟩ => ⟨S1x4352, .bf16⟩
  | .local _ .vmem, ⟨4, _⟩ => ⟨S10x4096, .bf16⟩
  | .local _ .vmem, ⟨5, _⟩ => ⟨S32x32x4096, .f32⟩
  | .local _ .vmem, ⟨6, _⟩ => ⟨S32x32x4096, .f32⟩
  | .local _ .vmem, ⟨7, _⟩ => ⟨S9x139264, .bf16⟩
  | .local _ .vmem, ⟨8, _⟩ => ⟨S4x144x4096, .bf16⟩
  | _, _ => ⟨S256x64x64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v28 : Ref sig .tc := ⟨.hbm, 64, rfl⟩
abbrev main_c_8 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_9 : Ref sig .tc := ⟨.hbm, 72, rfl⟩
abbrev main_v35 : Ref sig .tc := ⟨.hbm, 73, rfl⟩
abbrev main_v36 : Ref sig .tc := ⟨.hbm, 74, rfl⟩
abbrev main_c_10 : Ref sig .tc := ⟨.hbm, 75, rfl⟩
abbrev main_v37 : Ref sig .tc := ⟨.hbm, 76, rfl⟩
abbrev main_v38 : Ref sig .tc := ⟨.hbm, 77, rfl⟩
abbrev main_c_11 : Ref sig .tc := ⟨.hbm, 78, rfl⟩
abbrev main_v39 : Ref sig .tc := ⟨.hbm, 79, rfl⟩
abbrev main_v40 : Ref sig .tc := ⟨.hbm, 80, rfl⟩
abbrev main_c_12 : Ref sig .tc := ⟨.hbm, 81, rfl⟩
abbrev main_v41 : Ref sig .tc := ⟨.hbm, 82, rfl⟩
abbrev main_v42 : Ref sig .tc := ⟨.hbm, 83, rfl⟩
abbrev main_c_13 : Ref sig .tc := ⟨.hbm, 84, rfl⟩
abbrev main_v43 : Ref sig .tc := ⟨.hbm, 85, rfl⟩
abbrev main_v44 : Ref sig .tc := ⟨.hbm, 86, rfl⟩
abbrev main_c_14 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_c_15 : Ref sig .tc := ⟨.hbm, 91, rfl⟩
abbrev main_v48 : Ref sig .tc := ⟨.hbm, 92, rfl⟩
abbrev main_v49 : Ref sig .tc := ⟨.hbm, 93, rfl⟩
abbrev main_c_16 : Ref sig .tc := ⟨.hbm, 94, rfl⟩
abbrev main_v50 : Ref sig .tc := ⟨.hbm, 95, rfl⟩
abbrev main_v51 : Ref sig .tc := ⟨.hbm, 96, rfl⟩
abbrev main_c_17 : Ref sig .tc := ⟨.hbm, 97, rfl⟩
abbrev main_v52 : Ref sig .tc := ⟨.hbm, 98, rfl⟩
abbrev main_v53 : Ref sig .tc := ⟨.hbm, 99, rfl⟩
abbrev main_c_18 : Ref sig .tc := ⟨.hbm, 100, rfl⟩
abbrev main_v54 : Ref sig .tc := ⟨.hbm, 101, rfl⟩
abbrev main_v55 : Ref sig .tc := ⟨.hbm, 102, rfl⟩
abbrev main_c_19 : Ref sig .tc := ⟨.hbm, 103, rfl⟩
abbrev main_v56 : Ref sig .tc := ⟨.hbm, 104, rfl⟩
abbrev main_v57 : Ref sig .tc := ⟨.hbm, 105, rfl⟩
abbrev main_c_20 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_21 : Ref sig .tc := ⟨.hbm, 116, rfl⟩
abbrev main_v67 : Ref sig .tc := ⟨.hbm, 117, rfl⟩
abbrev main_v68 : Ref sig .tc := ⟨.hbm, 118, rfl⟩
abbrev main_c_22 : Ref sig .tc := ⟨.hbm, 119, rfl⟩
abbrev main_v69 : Ref sig .tc := ⟨.hbm, 120, rfl⟩
abbrev main_v70 : Ref sig .tc := ⟨.hbm, 121, rfl⟩
abbrev main_c_23 : Ref sig .tc := ⟨.hbm, 122, rfl⟩
abbrev main_v71 : Ref sig .tc := ⟨.hbm, 123, rfl⟩
abbrev main_v72 : Ref sig .tc := ⟨.hbm, 124, rfl⟩
abbrev main_c_24 : Ref sig .tc := ⟨.hbm, 125, rfl⟩
abbrev main_v73 : Ref sig .tc := ⟨.hbm, 126, rfl⟩
abbrev main_v74 : Ref sig .tc := ⟨.hbm, 127, rfl⟩
abbrev main_c_25 : Ref sig .tc := ⟨.hbm, 128, rfl⟩
abbrev main_v75 : Ref sig .tc := ⟨.hbm, 129, rfl⟩
abbrev main_v76 : Ref sig .tc := ⟨.hbm, 130, rfl⟩
abbrev main_c_26 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_27 : Ref sig .tc := ⟨.hbm, 135, rfl⟩
abbrev main_v80 : Ref sig .tc := ⟨.hbm, 136, rfl⟩
abbrev main_v81 : Ref sig .tc := ⟨.hbm, 137, rfl⟩
abbrev main_c_28 : Ref sig .tc := ⟨.hbm, 138, rfl⟩
abbrev main_v82 : Ref sig .tc := ⟨.hbm, 139, rfl⟩
abbrev main_v83 : Ref sig .tc := ⟨.hbm, 140, rfl⟩
abbrev main_c_29 : Ref sig .tc := ⟨.hbm, 141, rfl⟩
abbrev main_v84 : Ref sig .tc := ⟨.hbm, 142, rfl⟩
abbrev main_v85 : Ref sig .tc := ⟨.hbm, 143, rfl⟩
abbrev main_c_30 : Ref sig .tc := ⟨.hbm, 144, rfl⟩
abbrev main_v86 : Ref sig .tc := ⟨.hbm, 145, rfl⟩
abbrev main_v87 : Ref sig .tc := ⟨.hbm, 146, rfl⟩
abbrev main_c_31 : Ref sig .tc := ⟨.hbm, 147, rfl⟩
abbrev main_v88 : Ref sig .tc := ⟨.hbm, 148, rfl⟩
abbrev main_v89 : Ref sig .tc := ⟨.hbm, 149, rfl⟩
abbrev main_c_32 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_c_33 : Ref sig .tc := ⟨.hbm, 160, rfl⟩
abbrev main_v99 : Ref sig .tc := ⟨.hbm, 161, rfl⟩
abbrev main_v100 : Ref sig .tc := ⟨.hbm, 162, rfl⟩
abbrev main_c_34 : Ref sig .tc := ⟨.hbm, 163, rfl⟩
abbrev main_v101 : Ref sig .tc := ⟨.hbm, 164, rfl⟩
abbrev main_v102 : Ref sig .tc := ⟨.hbm, 165, rfl⟩
abbrev main_c_35 : Ref sig .tc := ⟨.hbm, 166, rfl⟩
abbrev main_v103 : Ref sig .tc := ⟨.hbm, 167, rfl⟩
abbrev main_v104 : Ref sig .tc := ⟨.hbm, 168, rfl⟩
abbrev main_c_36 : Ref sig .tc := ⟨.hbm, 169, rfl⟩
abbrev main_v105 : Ref sig .tc := ⟨.hbm, 170, rfl⟩
abbrev main_v106 : Ref sig .tc := ⟨.hbm, 171, rfl⟩
abbrev main_c_37 : Ref sig .tc := ⟨.hbm, 172, rfl⟩
abbrev main_v107 : Ref sig .tc := ⟨.hbm, 173, rfl⟩
abbrev main_v108 : Ref sig .tc := ⟨.hbm, 174, rfl⟩
abbrev main_c_38 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_c_39 : Ref sig .tc := ⟨.hbm, 179, rfl⟩
abbrev main_v112 : Ref sig .tc := ⟨.hbm, 180, rfl⟩
abbrev main_v113 : Ref sig .tc := ⟨.hbm, 181, rfl⟩
abbrev main_c_40 : Ref sig .tc := ⟨.hbm, 182, rfl⟩
abbrev main_v114 : Ref sig .tc := ⟨.hbm, 183, rfl⟩
abbrev main_v115 : Ref sig .tc := ⟨.hbm, 184, rfl⟩
abbrev main_c_41 : Ref sig .tc := ⟨.hbm, 185, rfl⟩
abbrev main_v116 : Ref sig .tc := ⟨.hbm, 186, rfl⟩
abbrev main_v117 : Ref sig .tc := ⟨.hbm, 187, rfl⟩
abbrev main_c_42 : Ref sig .tc := ⟨.hbm, 188, rfl⟩
abbrev main_v118 : Ref sig .tc := ⟨.hbm, 189, rfl⟩
abbrev main_v119 : Ref sig .tc := ⟨.hbm, 190, rfl⟩
abbrev main_c_43 : Ref sig .tc := ⟨.hbm, 191, rfl⟩
abbrev main_v120 : Ref sig .tc := ⟨.hbm, 192, rfl⟩
abbrev main_v121 : Ref sig .tc := ⟨.hbm, 193, rfl⟩
abbrev main_c_44 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_c_45 : Ref sig .tc := ⟨.hbm, 204, rfl⟩
abbrev main_v131 : Ref sig .tc := ⟨.hbm, 205, rfl⟩
abbrev main_v132 : Ref sig .tc := ⟨.hbm, 206, rfl⟩
abbrev main_c_46 : Ref sig .tc := ⟨.hbm, 207, rfl⟩
abbrev main_v133 : Ref sig .tc := ⟨.hbm, 208, rfl⟩
abbrev main_v134 : Ref sig .tc := ⟨.hbm, 209, rfl⟩
abbrev main_c_47 : Ref sig .tc := ⟨.hbm, 210, rfl⟩
abbrev main_v135 : Ref sig .tc := ⟨.hbm, 211, rfl⟩
abbrev main_v136 : Ref sig .tc := ⟨.hbm, 212, rfl⟩
abbrev main_c_48 : Ref sig .tc := ⟨.hbm, 213, rfl⟩
abbrev main_v137 : Ref sig .tc := ⟨.hbm, 214, rfl⟩
abbrev main_v138 : Ref sig .tc := ⟨.hbm, 215, rfl⟩
abbrev main_c_49 : Ref sig .tc := ⟨.hbm, 216, rfl⟩
abbrev main_v139 : Ref sig .tc := ⟨.hbm, 217, rfl⟩
abbrev main_v140 : Ref sig .tc := ⟨.hbm, 218, rfl⟩
abbrev main_c_50 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_c_51 : Ref sig .tc := ⟨.hbm, 223, rfl⟩
abbrev main_v144 : Ref sig .tc := ⟨.hbm, 224, rfl⟩
abbrev main_v145 : Ref sig .tc := ⟨.hbm, 225, rfl⟩
abbrev main_c_52 : Ref sig .tc := ⟨.hbm, 226, rfl⟩
abbrev main_v146 : Ref sig .tc := ⟨.hbm, 227, rfl⟩
abbrev main_v147 : Ref sig .tc := ⟨.hbm, 228, rfl⟩
abbrev main_c_53 : Ref sig .tc := ⟨.hbm, 229, rfl⟩
abbrev main_v148 : Ref sig .tc := ⟨.hbm, 230, rfl⟩
abbrev main_v149 : Ref sig .tc := ⟨.hbm, 231, rfl⟩
abbrev main_c_54 : Ref sig .tc := ⟨.hbm, 232, rfl⟩
abbrev main_v150 : Ref sig .tc := ⟨.hbm, 233, rfl⟩
abbrev main_v151 : Ref sig .tc := ⟨.hbm, 234, rfl⟩
abbrev main_c_55 : Ref sig .tc := ⟨.hbm, 235, rfl⟩
abbrev main_v152 : Ref sig .tc := ⟨.hbm, 236, rfl⟩
abbrev main_v153 : Ref sig .tc := ⟨.hbm, 237, rfl⟩
abbrev main_c_56 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_c_57 : Ref sig .tc := ⟨.hbm, 248, rfl⟩
abbrev main_v163 : Ref sig .tc := ⟨.hbm, 249, rfl⟩
abbrev main_v164 : Ref sig .tc := ⟨.hbm, 250, rfl⟩
abbrev main_c_58 : Ref sig .tc := ⟨.hbm, 251, rfl⟩
abbrev main_v165 : Ref sig .tc := ⟨.hbm, 252, rfl⟩
abbrev main_v166 : Ref sig .tc := ⟨.hbm, 253, rfl⟩
abbrev main_c_59 : Ref sig .tc := ⟨.hbm, 254, rfl⟩
abbrev main_v167 : Ref sig .tc := ⟨.hbm, 255, rfl⟩
abbrev main_v168 : Ref sig .tc := ⟨.hbm, 256, rfl⟩
abbrev main_c_60 : Ref sig .tc := ⟨.hbm, 257, rfl⟩
abbrev main_v169 : Ref sig .tc := ⟨.hbm, 258, rfl⟩
abbrev main_v170 : Ref sig .tc := ⟨.hbm, 259, rfl⟩
abbrev main_c_61 : Ref sig .tc := ⟨.hbm, 260, rfl⟩
abbrev main_v171 : Ref sig .tc := ⟨.hbm, 261, rfl⟩
abbrev main_v172 : Ref sig .tc := ⟨.hbm, 262, rfl⟩
abbrev main_c_62 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_c_63 : Ref sig .tc := ⟨.hbm, 267, rfl⟩
abbrev main_v176 : Ref sig .tc := ⟨.hbm, 268, rfl⟩
abbrev main_v177 : Ref sig .tc := ⟨.hbm, 269, rfl⟩
abbrev main_c_64 : Ref sig .tc := ⟨.hbm, 270, rfl⟩
abbrev main_v178 : Ref sig .tc := ⟨.hbm, 271, rfl⟩
abbrev main_v179 : Ref sig .tc := ⟨.hbm, 272, rfl⟩
abbrev main_c_65 : Ref sig .tc := ⟨.hbm, 273, rfl⟩
abbrev main_v180 : Ref sig .tc := ⟨.hbm, 274, rfl⟩
abbrev main_v181 : Ref sig .tc := ⟨.hbm, 275, rfl⟩
abbrev main_c_66 : Ref sig .tc := ⟨.hbm, 276, rfl⟩
abbrev main_v182 : Ref sig .tc := ⟨.hbm, 277, rfl⟩
abbrev main_v183 : Ref sig .tc := ⟨.hbm, 278, rfl⟩
abbrev main_c_67 : Ref sig .tc := ⟨.hbm, 279, rfl⟩
abbrev main_v184 : Ref sig .tc := ⟨.hbm, 280, rfl⟩
abbrev main_v185 : Ref sig .tc := ⟨.hbm, 281, rfl⟩
abbrev main_c_68 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_c_69 : Ref sig .tc := ⟨.hbm, 292, rfl⟩
abbrev main_v195 : Ref sig .tc := ⟨.hbm, 293, rfl⟩
abbrev main_v196 : Ref sig .tc := ⟨.hbm, 294, rfl⟩
abbrev main_c_70 : Ref sig .tc := ⟨.hbm, 295, rfl⟩
abbrev main_v197 : Ref sig .tc := ⟨.hbm, 296, rfl⟩
abbrev main_v198 : Ref sig .tc := ⟨.hbm, 297, rfl⟩
abbrev main_c_71 : Ref sig .tc := ⟨.hbm, 298, rfl⟩
abbrev main_v199 : Ref sig .tc := ⟨.hbm, 299, rfl⟩
abbrev main_v200 : Ref sig .tc := ⟨.hbm, 300, rfl⟩
abbrev main_c_72 : Ref sig .tc := ⟨.hbm, 301, rfl⟩
abbrev main_v201 : Ref sig .tc := ⟨.hbm, 302, rfl⟩
abbrev main_v202 : Ref sig .tc := ⟨.hbm, 303, rfl⟩
abbrev main_c_73 : Ref sig .tc := ⟨.hbm, 304, rfl⟩
abbrev main_v203 : Ref sig .tc := ⟨.hbm, 305, rfl⟩
abbrev main_v204 : Ref sig .tc := ⟨.hbm, 306, rfl⟩
abbrev main_c_74 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_c_75 : Ref sig .tc := ⟨.hbm, 311, rfl⟩
abbrev main_v208 : Ref sig .tc := ⟨.hbm, 312, rfl⟩
abbrev main_v209 : Ref sig .tc := ⟨.hbm, 313, rfl⟩
abbrev main_c_76 : Ref sig .tc := ⟨.hbm, 314, rfl⟩
abbrev main_v210 : Ref sig .tc := ⟨.hbm, 315, rfl⟩
abbrev main_v211 : Ref sig .tc := ⟨.hbm, 316, rfl⟩
abbrev main_c_77 : Ref sig .tc := ⟨.hbm, 317, rfl⟩
abbrev main_v212 : Ref sig .tc := ⟨.hbm, 318, rfl⟩
abbrev main_v213 : Ref sig .tc := ⟨.hbm, 319, rfl⟩
abbrev main_c_78 : Ref sig .tc := ⟨.hbm, 320, rfl⟩
abbrev main_v214 : Ref sig .tc := ⟨.hbm, 321, rfl⟩
abbrev main_v215 : Ref sig .tc := ⟨.hbm, 322, rfl⟩
abbrev main_c_79 : Ref sig .tc := ⟨.hbm, 323, rfl⟩
abbrev main_v216 : Ref sig .tc := ⟨.hbm, 324, rfl⟩
abbrev main_v217 : Ref sig .tc := ⟨.hbm, 325, rfl⟩
abbrev main_c_80 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_c_81 : Ref sig .tc := ⟨.hbm, 336, rfl⟩
abbrev main_v227 : Ref sig .tc := ⟨.hbm, 337, rfl⟩
abbrev main_v228 : Ref sig .tc := ⟨.hbm, 338, rfl⟩
abbrev main_c_82 : Ref sig .tc := ⟨.hbm, 339, rfl⟩
abbrev main_v229 : Ref sig .tc := ⟨.hbm, 340, rfl⟩
abbrev main_v230 : Ref sig .tc := ⟨.hbm, 341, rfl⟩
abbrev main_c_83 : Ref sig .tc := ⟨.hbm, 342, rfl⟩
abbrev main_v231 : Ref sig .tc := ⟨.hbm, 343, rfl⟩
abbrev main_v232 : Ref sig .tc := ⟨.hbm, 344, rfl⟩
abbrev main_c_84 : Ref sig .tc := ⟨.hbm, 345, rfl⟩
abbrev main_v233 : Ref sig .tc := ⟨.hbm, 346, rfl⟩
abbrev main_v234 : Ref sig .tc := ⟨.hbm, 347, rfl⟩
abbrev main_c_85 : Ref sig .tc := ⟨.hbm, 348, rfl⟩
abbrev main_v235 : Ref sig .tc := ⟨.hbm, 349, rfl⟩
abbrev main_v236 : Ref sig .tc := ⟨.hbm, 350, rfl⟩
abbrev main_c_86 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_c_87 : Ref sig .tc := ⟨.hbm, 355, rfl⟩
abbrev main_v240 : Ref sig .tc := ⟨.hbm, 356, rfl⟩
abbrev main_v241 : Ref sig .tc := ⟨.hbm, 357, rfl⟩
abbrev main_c_88 : Ref sig .tc := ⟨.hbm, 358, rfl⟩
abbrev main_v242 : Ref sig .tc := ⟨.hbm, 359, rfl⟩
abbrev main_v243 : Ref sig .tc := ⟨.hbm, 360, rfl⟩
abbrev main_c_89 : Ref sig .tc := ⟨.hbm, 361, rfl⟩
abbrev main_v244 : Ref sig .tc := ⟨.hbm, 362, rfl⟩
abbrev main_v245 : Ref sig .tc := ⟨.hbm, 363, rfl⟩
abbrev main_c_90 : Ref sig .tc := ⟨.hbm, 364, rfl⟩
abbrev main_v246 : Ref sig .tc := ⟨.hbm, 365, rfl⟩
abbrev main_v247 : Ref sig .tc := ⟨.hbm, 366, rfl⟩
abbrev main_c_91 : Ref sig .tc := ⟨.hbm, 367, rfl⟩
abbrev main_v248 : Ref sig .tc := ⟨.hbm, 368, rfl⟩
abbrev main_v249 : Ref sig .tc := ⟨.hbm, 369, rfl⟩
abbrev main_c_92 : Ref sig .tc := ⟨.hbm, 370, rfl⟩
abbrev main_v250 : Ref sig .tc := ⟨.hbm, 371, rfl⟩
abbrev main_v251 : Ref sig .tc := ⟨.hbm, 372, rfl⟩
abbrev main_v252 : Ref sig .tc := ⟨.hbm, 373, rfl⟩
abbrev main_v253 : Ref sig .tc := ⟨.hbm, 374, rfl⟩
abbrev main_v254 : Ref sig .tc := ⟨.hbm, 375, rfl⟩
abbrev main_v255 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_c_93 : Ref sig .tc := ⟨.hbm, 380, rfl⟩
abbrev main_v259 : Ref sig .tc := ⟨.hbm, 381, rfl⟩
abbrev main_v260 : Ref sig .tc := ⟨.hbm, 382, rfl⟩
abbrev main_c_94 : Ref sig .tc := ⟨.hbm, 383, rfl⟩
abbrev main_v261 : Ref sig .tc := ⟨.hbm, 384, rfl⟩
abbrev main_v262 : Ref sig .tc := ⟨.hbm, 385, rfl⟩
abbrev main_c_95 : Ref sig .tc := ⟨.hbm, 386, rfl⟩
abbrev main_v263 : Ref sig .tc := ⟨.hbm, 387, rfl⟩
abbrev main_v264 : Ref sig .tc := ⟨.hbm, 388, rfl⟩
abbrev main_c_96 : Ref sig .tc := ⟨.hbm, 389, rfl⟩
abbrev main_v265 : Ref sig .tc := ⟨.hbm, 390, rfl⟩
abbrev main_v266 : Ref sig .tc := ⟨.hbm, 391, rfl⟩
abbrev main_c_97 : Ref sig .tc := ⟨.hbm, 392, rfl⟩
abbrev main_v267 : Ref sig .tc := ⟨.hbm, 393, rfl⟩
abbrev main_v268 : Ref sig .tc := ⟨.hbm, 394, rfl⟩
abbrev main_c_98 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_c_99 : Ref sig .tc := ⟨.hbm, 399, rfl⟩
abbrev main_v272 : Ref sig .tc := ⟨.hbm, 400, rfl⟩
abbrev main_v273 : Ref sig .tc := ⟨.hbm, 401, rfl⟩
abbrev main_c_100 : Ref sig .tc := ⟨.hbm, 402, rfl⟩
abbrev main_v274 : Ref sig .tc := ⟨.hbm, 403, rfl⟩
abbrev main_v275 : Ref sig .tc := ⟨.hbm, 404, rfl⟩
abbrev main_c_101 : Ref sig .tc := ⟨.hbm, 405, rfl⟩
abbrev main_v276 : Ref sig .tc := ⟨.hbm, 406, rfl⟩
abbrev main_v277 : Ref sig .tc := ⟨.hbm, 407, rfl⟩
abbrev main_c_102 : Ref sig .tc := ⟨.hbm, 408, rfl⟩
abbrev main_v278 : Ref sig .tc := ⟨.hbm, 409, rfl⟩
abbrev main_v279 : Ref sig .tc := ⟨.hbm, 410, rfl⟩
abbrev main_c_103 : Ref sig .tc := ⟨.hbm, 411, rfl⟩
abbrev main_v280 : Ref sig .tc := ⟨.hbm, 412, rfl⟩
abbrev main_v281 : Ref sig .tc := ⟨.hbm, 413, rfl⟩
abbrev main_c_104 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_v285 : Ref sig .tc := ⟨.hbm, 418, rfl⟩
abbrev main_v286 : Ref sig .tc := ⟨.hbm, 419, rfl⟩
abbrev main_v287 : Ref sig .tc := ⟨.hbm, 420, rfl⟩
abbrev main_v288 : Ref sig .tc := ⟨.hbm, 421, rfl⟩
abbrev main_v289 : Ref sig .tc := ⟨.hbm, 422, rfl⟩
abbrev main_v290 : Ref sig .tc := ⟨.hbm, 423, rfl⟩
abbrev main_c_105 : Ref sig .tc := ⟨.hbm, 424, rfl⟩
abbrev main_v291 : Ref sig .tc := ⟨.hbm, 425, rfl⟩
abbrev main_v292 : Ref sig .tc := ⟨.hbm, 426, rfl⟩
abbrev main_c_106 : Ref sig .tc := ⟨.hbm, 427, rfl⟩
abbrev main_v293 : Ref sig .tc := ⟨.hbm, 428, rfl⟩
abbrev main_v294 : Ref sig .tc := ⟨.hbm, 429, rfl⟩
abbrev main_c_107 : Ref sig .tc := ⟨.hbm, 430, rfl⟩
abbrev main_v295 : Ref sig .tc := ⟨.hbm, 431, rfl⟩
abbrev main_v296 : Ref sig .tc := ⟨.hbm, 432, rfl⟩
abbrev main_c_108 : Ref sig .tc := ⟨.hbm, 433, rfl⟩
abbrev main_v297 : Ref sig .tc := ⟨.hbm, 434, rfl⟩
abbrev main_v298 : Ref sig .tc := ⟨.hbm, 435, rfl⟩
abbrev main_c_109 : Ref sig .tc := ⟨.hbm, 436, rfl⟩
abbrev main_v299 : Ref sig .tc := ⟨.hbm, 437, rfl⟩
abbrev main_v300 : Ref sig .tc := ⟨.hbm, 438, rfl⟩
abbrev main_c_110 : Ref sig .tc := ⟨.hbm, 439, rfl⟩
abbrev main_v301 : Ref sig .tc := ⟨.hbm, 440, rfl⟩
abbrev main_v302 : Ref sig .tc := ⟨.hbm, 441, rfl⟩
abbrev main_v303 : Ref sig .tc := ⟨.hbm, 442, rfl⟩
abbrev main_c_111 : Ref sig .tc := ⟨.hbm, 443, rfl⟩
abbrev main_v304 : Ref sig .tc := ⟨.hbm, 444, rfl⟩
abbrev main_v305 : Ref sig .tc := ⟨.hbm, 445, rfl⟩
abbrev main_c_112 : Ref sig .tc := ⟨.hbm, 446, rfl⟩
abbrev main_v306 : Ref sig .tc := ⟨.hbm, 447, rfl⟩
abbrev main_v307 : Ref sig .tc := ⟨.hbm, 448, rfl⟩
abbrev main_c_113 : Ref sig .tc := ⟨.hbm, 449, rfl⟩
abbrev main_v308 : Ref sig .tc := ⟨.hbm, 450, rfl⟩
abbrev main_v309 : Ref sig .tc := ⟨.hbm, 451, rfl⟩
abbrev main_c_114 : Ref sig .tc := ⟨.hbm, 452, rfl⟩
abbrev main_v310 : Ref sig .tc := ⟨.hbm, 453, rfl⟩
abbrev main_v311 : Ref sig .tc := ⟨.hbm, 454, rfl⟩
abbrev main_c_115 : Ref sig .tc := ⟨.hbm, 455, rfl⟩
abbrev main_v312 : Ref sig .tc := ⟨.hbm, 456, rfl⟩
abbrev main_v313 : Ref sig .tc := ⟨.hbm, 457, rfl⟩
abbrev main_c_116 : Ref sig .tc := ⟨.hbm, 458, rfl⟩
abbrev main_v314 : Ref sig .tc := ⟨.hbm, 459, rfl⟩
abbrev main_v315 : Ref sig .tc := ⟨.hbm, 460, rfl⟩
abbrev main_v316 : Ref sig .tc := ⟨.hbm, 461, rfl⟩
abbrev main_v317 : Ref sig .tc := ⟨.hbm, 462, rfl⟩
abbrev main_v318 : Ref sig .tc := ⟨.hbm, 463, rfl⟩
abbrev main_v319 : Ref sig .tc := ⟨.hbm, 464, rfl⟩
abbrev main_v320 : Ref sig .tc := ⟨.hbm, 465, rfl⟩
abbrev main_v321 : Ref sig .tc := ⟨.hbm, 466, rfl⟩
abbrev main_v322 : Ref sig .tc := ⟨.hbm, 467, rfl⟩
abbrev main_c_117 : Ref sig .tc := ⟨.hbm, 468, rfl⟩
abbrev main_v323 : Ref sig .tc := ⟨.hbm, 469, rfl⟩
abbrev main_v324 : Ref sig .tc := ⟨.hbm, 470, rfl⟩
abbrev main_v325 : Ref sig .tc := ⟨.hbm, 471, rfl⟩
abbrev main_v326 : Ref sig .tc := ⟨.hbm, 472, rfl⟩
abbrev main_v327 : Ref sig .tc := ⟨.hbm, 473, rfl⟩
abbrev main_v328 : Ref sig .tc := ⟨.hbm, 474, rfl⟩
abbrev main_v329 : Ref sig .tc := ⟨.hbm, 475, rfl⟩
abbrev main_v330 : Ref sig .tc := ⟨.hbm, 476, rfl⟩
abbrev main_v331 : Ref sig .tc := ⟨.hbm, 477, rfl⟩
abbrev main_v332 : Ref sig .tc := ⟨.hbm, 478, rfl⟩
abbrev main_v333 : Ref sig .tc := ⟨.hbm, 479, rfl⟩
abbrev main_v334 : Ref sig .tc := ⟨.hbm, 480, rfl⟩
abbrev main_v335 : Ref sig .tc := ⟨.hbm, 481, rfl⟩
abbrev main_v336 : Ref sig .tc := ⟨.hbm, 482, rfl⟩
abbrev main_v337 : Ref sig .tc := ⟨.hbm, 483, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x32x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S256x64x64x1 : Shape := ⟨4, ![256, 64, 64, 1]⟩
abbrev S3x3x1x64 : Shape := ⟨4, ![3, 3, 1, 64]⟩
abbrev S64 : Shape := ⟨1, ![64]⟩
abbrev S3x3x64x32 : Shape := ⟨4, ![3, 3, 64, 32]⟩
abbrev S32 : Shape := ⟨1, ![32]⟩
abbrev S256x64x64 : Shape := ⟨3, ![256, 64, 64]⟩
abbrev S_ : Shape := ⟨0, ![]⟩
abbrev S256x62x62x64 : Shape := ⟨4, ![256, 62, 62, 64]⟩
abbrev S256x62x62 : Shape := ⟨3, ![256, 62, 62]⟩
abbrev S256x62x62x1 : Shape := ⟨4, ![256, 62, 62, 1]⟩
abbrev S1x1x1x64 : Shape := ⟨4, ![1, 1, 1, 64]⟩
abbrev S256x66x66x64 : Shape := ⟨4, ![256, 66, 66, 64]⟩
abbrev S256x64x64x32 : Shape := ⟨4, ![256, 64, 64, 32]⟩
abbrev S256x64x64x64 : Shape := ⟨4, ![256, 64, 64, 64]⟩
abbrev S1x1x64x32 : Shape := ⟨4, ![1, 1, 64, 32]⟩
abbrev S64x32 : Shape := ⟨2, ![64, 32]⟩
abbrev S1x1x1x32 : Shape := ⟨4, ![1, 1, 1, 32]⟩
abbrev S256x32x64x64 : Shape := ⟨4, ![256, 32, 64, 64]⟩

abbrev nBuf : Space → Nat
  | .hbm => 146
  | .vmem => 0
  | .smem => 0
  | _ => 0

abbrev hbmTy0_0 (i : Nat) : BufTy := match i % 128 with
  | 0 => ⟨S256x64x64x1, .f32⟩
  | 1 => ⟨S3x3x1x64, .f32⟩
  | 2 => ⟨S64, .f32⟩
  | 3 => ⟨S3x3x64x32, .f32⟩
  | 4 => ⟨S32, .f32⟩
  | 5 => ⟨S256x64x64, .f32⟩
  | 6 => ⟨S_, .f32⟩
  | 7 => ⟨S256x62x62x64, .f32⟩
  | 8 => ⟨S256x62x62, .f32⟩
  | 9 => ⟨S256x62x62x1, .f32⟩
  | 10 => ⟨S1x1x1x64, .f32⟩
  | 11 => ⟨S64, .f32⟩
  | 12 => ⟨S1x1x1x64, .f32⟩
  | 13 => ⟨S256x62x62x64, .f32⟩
  | 14 => ⟨S256x62x62x64, .f32⟩
  | 15 => ⟨S256x62x62x64, .f32⟩
  | 16 => ⟨S256x62x62x64, .f32⟩
  | 17 => ⟨S256x62x62, .f32⟩
  | 18 => ⟨S256x62x62x1, .f32⟩
  | 19 => ⟨S1x1x1x64, .f32⟩
  | 20 => ⟨S64, .f32⟩
  | 21 => ⟨S1x1x1x64, .f32⟩
  | 22 => ⟨S256x62x62x64, .f32⟩
  | 23 => ⟨S256x62x62x64, .f32⟩
  | 24 => ⟨S256x62x62x64, .f32⟩
  | 25 => ⟨S256x62x62x64, .f32⟩
  | 26 => ⟨S256x62x62, .f32⟩
  | 27 => ⟨S256x62x62x1, .f32⟩
  | 28 => ⟨S1x1x1x64, .f32⟩
  | 29 => ⟨S64, .f32⟩
  | 30 => ⟨S1x1x1x64, .f32⟩
  | 31 => ⟨S256x62x62x64, .f32⟩
  | 32 => ⟨S256x62x62x64, .f32⟩
  | 33 => ⟨S256x62x62x64, .f32⟩
  | 34 => ⟨S256x62x62x64, .f32⟩
  | 35 => ⟨S256x62x62, .f32⟩
  | 36 => ⟨S256x62x62x1, .f32⟩
  | 37 => ⟨S1x1x1x64, .f32⟩
  | 38 => ⟨S64, .f32⟩
  | 39 => ⟨S1x1x1x64, .f32⟩
  | 40 => ⟨S256x62x62x64, .f32⟩
  | 41 => ⟨S256x62x62x64, .f32⟩
  | 42 => ⟨S256x62x62x64, .f32⟩
  | 43 => ⟨S256x62x62x64, .f32⟩
  | 44 => ⟨S256x62x62, .f32⟩
  | 45 => ⟨S256x62x62x1, .f32⟩
  | 46 => ⟨S1x1x1x64, .f32⟩
  | 47 => ⟨S64, .f32⟩
  | 48 => ⟨S1x1x1x64, .f32⟩
  | 49 => ⟨S256x62x62x64, .f32⟩
  | 50 => ⟨S256x62x62x64, .f32⟩
  | 51 => ⟨S256x62x62x64, .f32⟩
  | 52 => ⟨S256x62x62x64, .f32⟩
  | 53 => ⟨S256x62x62, .f32⟩
  | 54 => ⟨S256x62x62x1, .f32⟩
  | 55 => ⟨S1x1x1x64, .f32⟩
  | 56 => ⟨S64, .f32⟩
  | 57 => ⟨S1x1x1x64, .f32⟩
  | 58 => ⟨S256x62x62x64, .f32⟩
  | 59 => ⟨S256x62x62x64, .f32⟩
  | 60 => ⟨S256x62x62x64, .f32⟩
  | 61 => ⟨S256x62x62x64, .f32⟩
  | 62 => ⟨S256x62x62, .f32⟩
  | 63 => ⟨S256x62x62x1, .f32⟩
  | 64 => ⟨S1x1x1x64, .f32⟩
  | 65 => ⟨S64, .f32⟩
  | 66 => ⟨S1x1x1x64, .f32⟩
  | 67 => ⟨S256x62x62x64, .f32⟩
  | 68 => ⟨S256x62x62x64, .f32⟩
  | 69 => ⟨S256x62x62x64, .f32⟩
  | 70 => ⟨S256x62x62x64, .f32⟩
  | 71 => ⟨S256x62x62, .f32⟩
  | 72 => ⟨S256x62x62x1, .f32⟩
  | 73 => ⟨S1x1x1x64, .f32⟩
  | 74 => ⟨S64, .f32⟩
  | 75 => ⟨S1x1x1x64, .f32⟩
  | 76 => ⟨S256x62x62x64, .f32⟩
  | 77 => ⟨S256x62x62x64, .f32⟩
  | 78 => ⟨S256x62x62x64, .f32⟩
  | 79 => ⟨S256x62x62x64, .f32⟩
  | 80 => ⟨S256x62x62, .f32⟩
  | 81 => ⟨S256x62x62x1, .f32⟩
  | 82 => ⟨S1x1x1x64, .f32⟩
  | 83 => ⟨S64, .f32⟩
  | 84 => ⟨S1x1x1x64, .f32⟩
  | 85 => ⟨S256x62x62x64, .f32⟩
  | 86 => ⟨S256x62x62x64, .f32⟩
  | 87 => ⟨S256x62x62x64, .f32⟩
  | 88 => ⟨S256x62x62x64, .f32⟩
  | 89 => ⟨S1x1x1x64, .f32⟩
  | 90 => ⟨S256x62x62x64, .f32⟩
  | 91 => ⟨S256x62x62x64, .f32⟩
  | 92 => ⟨S_, .i32⟩
  | 93 => ⟨S_, .f32⟩
  | 94 => ⟨S256x66x66x64, .f32⟩
  | 95 => ⟨S_, .f32⟩
  | 96 => ⟨S256x64x64x32, .f32⟩
  | 97 => ⟨S256x64x64x64, .f32⟩
  | 98 => ⟨S1x1x64x32, .f32⟩
  | 99 => ⟨S64x32, .f32⟩
  | 100 => ⟨S256x64x64x32, .f32⟩
  | 101 => ⟨S256x64x64x32, .f32⟩
  | 102 => ⟨S256x64x64x64, .f32⟩
  | 103 => ⟨S1x1x64x32, .f32⟩
  | 104 => ⟨S64x32, .f32⟩
  | 105 => ⟨S256x64x64x32, .f32⟩
  | 106 => ⟨S256x64x64x32, .f32⟩
  | 107 => ⟨S256x64x64x64, .f32⟩
  | 108 => ⟨S1x1x64x32, .f32⟩
  | 109 => ⟨S64x32, .f32⟩
  | 110 => ⟨S256x64x64x32, .f32⟩
  | 111 => ⟨S256x64x64x32, .f32⟩
  | 112 => ⟨S256x64x64x64, .f32⟩
  | 113 => ⟨S1x1x64x32, .f32⟩
  | 114 => ⟨S64x32, .f32⟩
  | 115 => ⟨S256x64x64x32, .f32⟩
  | 116 => ⟨S256x64x64x32, .f32⟩
  | 117 => ⟨S256x64x64x64, .f32⟩
  | 118 => ⟨S1x1x64x32, .f32⟩
  | 119 => ⟨S64x32, .f32⟩
  | 120 => ⟨S256x64x64x32, .f32⟩
  | 121 => ⟨S256x64x64x32, .f32⟩
  | 122 => ⟨S256x64x64x64, .f32⟩
  | 123 => ⟨S1x1x64x32, .f32⟩
  | 124 => ⟨S64x32, .f32⟩
  | 125 => ⟨S256x64x64x32, .f32⟩
  | 126 => ⟨S256x64x64x32, .f32⟩
  | 127 => ⟨S256x64x64x64, .f32⟩
  | _ => ⟨S256x64x64x1, .f32⟩

abbrev hbmTy0_1 (i : Nat) : BufTy := match i % 128 with
  | 0 => ⟨S1x1x64x32, .f32⟩
  | 1 => ⟨S64x32, .f32⟩
  | 2 => ⟨S256x64x64x32, .f32⟩
  | 3 => ⟨S256x64x64x32, .f32⟩
  | 4 => ⟨S256x64x64x64, .f32⟩
  | 5 => ⟨S1x1x64x32, .f32⟩
  | 6 => ⟨S64x32, .f32⟩
  | 7 => ⟨S256x64x64x32, .f32⟩
  | 8 => ⟨S256x64x64x32, .f32⟩
  | 9 => ⟨S256x64x64x64, .f32⟩
  | 10 => ⟨S1x1x64x32, .f32⟩
  | 11 => ⟨S64x32, .f32⟩
  | 12 => ⟨S256x64x64x32, .f32⟩
  | 13 => ⟨S256x64x64x32, .f32⟩
  | 14 => ⟨S1x1x1x32, .f32⟩
  | 15 => ⟨S256x64x64x32, .f32⟩
  | 16 => ⟨S256x64x64x32, .f32⟩
  | 17 => ⟨S256x32x64x64, .f32⟩
  | _ => ⟨S256x64x64x1, .f32⟩

abbrev hbmTy (i : Nat) : BufTy := match i / 128 with
  | 0 => hbmTy0_0 i
  | 1 => hbmTy0_1 i
  | _ => ⟨S256x64x64x1, .f32⟩

abbrev bufTy : (tb : Table) → Fin (tcTables nBuf tb) → BufTy
  | .hbm, ⟨i, _⟩ => hbmTy i
  | _, _ => ⟨S256x64x64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_c : Ref sig .tc := ⟨.hbm, 92, rfl⟩
abbrev main_call0_v0 : Ref sig .tc := ⟨.hbm, 93, rfl⟩
abbrev main_v86 : Ref sig .tc := ⟨.hbm, 94, rfl⟩
abbrev main_cst_0 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩

abbrev nD : Nat := 1
abbrev τ : Topo := Topo.v7x

variable {F : FTy → Type} [FloatOps F]
-- ==== Proof.KiHost.lean ====
/- @main around the kernel's region: the host lines before and after it, the contents of the buffers when the
   region is entered, and that no host line writes an argument. -/
module

public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.StableHlo.RunRead
public import Idealize.ShloMosaic.Lib.Tactic

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host lines before the region, one after the other. -/
abbrev early : List (List (HloOp τ sig (Elt F))) := [hostOps0, hostOps0_1, hostOps0_2, hostOps0_3, hostOps0_4]

/-- What core `c`'s buffers hold when the region is entered. -/
def atEntry (c : Dev nD) : Valuation τ sig (Elt F) := StableHlo.after (List.flatten early) (fun b => m (c, b))

/-- What the buffer of reference `b` holds when the region is entered. -/
abbrev entry (c : Dev nD) (b : Ref sig .tc) : Buf (Elt F) ((c : Thread nD τ).loc b) := atEntry m c (Proc.devRef .tc b)

/-- No host line before the region makes a fresh buffer. -/
theorem early_fresh : (early (F := F)).Forall fun ops => ops.Forall fun op => op.fresh = ∅ := by
  refine ⟨?_, ?_, ?_, ?_, ?_⟩ <;> (simp only [List.Forall]; repeat' constructor)

/-- The host lines before the region touch the tensor core's references only. -/
theorem early_sub : (early (F := F)).Forall fun ops => ops.Forall fun op => op.bufs ⊆ StableHlo.tcRefs τ sig :=
  ⟨hostOps0_sub, hostOps0_1_sub, hostOps0_2_sub, hostOps0_3_sub, hostOps0_4_sub⟩

/-- @main is the early host lines, the region, and the reshape after it. -/
theorem main_around : Pipeline.HMainK (Ix := Unit) (Name := ℕ) (U := UR sig nD τ) (Lvl := ℕ) cfgs 0 defs₀ Variants.none m (main (F := F)) (entry m)
      (fun _ => Pipeline.chain ([hostOps1].map StableHlo.seq)) :=
  Pipeline.hmain_around cfgs 0 defs₀ Variants.none m main early [hostOps1] early_sub early_fresh main_chain

/-- The reshape after the region touches the region's arrays and the buffers the region passes by. -/
theorem late_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op (List.forall_iff_forall_mem.mp hostOps1_sub op hop)

/-- The reshape after the region makes no fresh buffer. -/
theorem late_fresh : ∀ ops ∈ ([hostOps1] : List (List (HloOp τ sig (Elt F)))), ∀ op ∈ ops, op.fresh = ∅ := by
  intro ops hops op hop
  obtain rfl := List.mem_singleton.mp hops
  obtain rfl := List.mem_singleton.mp hop
  rfl

/-- The only reference the reshape after the region writes is the result's. -/
theorem late_writes : ∀ op ∈ (hostOps1 : List (HloOp τ sig (Elt F))), op.writes = {Proc.devRef .tc main_v337} := by
  intro op hop
  obtain rfl := List.mem_singleton.mp hop
  exact StableHlo.reshape_writes ..

/-- The reshape after the region writes none of the region's arrays. -/
theorem late_keeps : ∀ ops ∈ ([hostOps1] : List (List (HloOp τ sig (Elt F)))), ∀ op ∈ ops,
    ∀ w, Proc.devRef .tc (Pipeline.arrRef spec0 w) ∉ op.writes := by
  intro ops hops op hop w
  obtain rfl := List.mem_singleton.mp hops
  rw [late_writes op hop, Finset.mem_singleton]
  exact StableHlo.devRef_ne_of_ne ((by decide : ∀ w, Pipeline.arrRef spec0 w ≠ main_v337) w)

/-- The region finds the first argument as launched. -/
theorem entry_arg0 (c : Dev nD) : entry m c main_arg0 = m ((c : Thread nD τ).loc main_arg0) := by
  unfold entry atEntry
  after_reads_simp
/-- The region finds the second argument as launched. -/
theorem entry_arg1 (c : Dev nD) : entry m c main_arg1 = m ((c : Thread nD τ).loc main_arg1) := by
  unfold entry atEntry
  after_reads_simp
/-- The region finds the third argument as launched. -/
theorem entry_arg2 (c : Dev nD) : entry m c main_arg2 = m ((c : Thread nD τ).loc main_arg2) := by
  unfold entry atEntry
  after_reads_simp
/-- The region finds the fourth argument as launched. -/
theorem entry_arg3 (c : Dev nD) : entry m c main_arg3 = m ((c : Thread nD τ).loc main_arg3) := by
  unfold entry atEntry
  after_reads_simp
/-- The region finds the fifth argument as launched. -/
theorem entry_arg4 (c : Dev nD) : entry m c main_arg4 = m ((c : Thread nD τ).loc main_arg4) := by
  unfold entry atEntry
  after_reads_simp

/-- A reference the reshape does not write and that is none of the region's arrays ends as the region found it. -/
theorem tail_keeps (dats : (p : Fin _) → (c : Dev nD) → Dat τ (Elt F) Unit ℕ (UR sig nD τ) ℕ (cfgs p) c) (c : Dev nD)
    (r : Ref sig .tc) (h : r ≠ main_v337) (hr : ∀ w, Pipeline.arrRef spec0 w ≠ r) :
    Pipeline.afterTail₀ cfgs dats 0 (atEntry m) [hostOps1] c r = entry m c r := by
  unfold Pipeline.afterTail₀
  rw [StableHlo.after_of_forall_not_mem (b := Proc.devRef .tc r) _ _ (fun op hop => by
      rw [late_writes op (by simpa using hop), Finset.mem_singleton]
      exact StableHlo.devRef_ne_of_ne h),
    Pipeline.withArrays_of_ne _ c (atEntry m c) _ r hr]

end Cert.KernelIdeal.Net

end
-- ==== Proof.KiBody.lean ====
/- The kernel body of the program, regrouped: the printed run of statements is one optional
   first-point set-up, then thirty-two fills of the shifted rows (`fill`), then thirty-two image
   products (`image`), each stated once for any image number. -/
module

public import proofs.«01_k».proof.Proof.Gen.KernelIdeal
public import Idealize.ShloMosaic.Lib.Tactic

@[expose] public section

set_option maxRecDepth 16384

noncomputable section

namespace Cert.KernelIdeal.Net

open Cert.KernelIdeal
open Idealize.ShloMosaic Idealize.SL.Sem
open Shapes1.Facts₀

variable {F : FTy → Type} [FloatOps F]

/-- The effects of the kernel's body. -/
abbrev E (F : FTy → Type) : Type → Type := TpuEff nD τ sig (Elt F) Λ₀ .tc

/-! ## Geometry facts, for any image number -/

/-- A row of 4352 elements from column `s` on lies in the images' block. -/
theorem inb_x (b s : ℕ) (hb : b < 32) (hs : s ≤ 256) :
    ∀ a, (![b, s] : Fin 2 → ℕ) a + S1x4352.size a ≤ S32x4608.size a :=
  Fin.forall_fin_two.mpr ⟨by show b + 1 ≤ 32; omega, by show s + 4352 ≤ 4608; omega⟩

/-- The nine rows of image `b` lie in the buffer of shifted rows. -/
theorem inb_rhs (b : ℕ) (hb : b < 32) : ∀ a, (![0, b * 4352] : Fin 2 → ℕ) a + S9x4352.size a ≤ S9x139264.size a :=
  Fin.forall_fin_two.mpr ⟨by show 0 + 9 ≤ 9; omega, by show b * 4352 + 4352 ≤ 139264; omega⟩

/-- Nine rows of 4096 elements, `s` columns into image `b`, lie in the buffer of shifted rows. -/
theorem inb_tap (b s : ℕ) (hb : b < 32) (hs : s ≤ 256) :
    ∀ a, (![0, b * 4352 + s] : Fin 2 → ℕ) a + S9x4096.size a ≤ S9x139264.size a :=
  Fin.forall_fin_two.mpr ⟨by show 0 + 9 ≤ 9; omega, by show b * 4352 + s + 4096 ≤ 139264; omega⟩

/-- A band of `n` rows from row `k` on lies in slab `r`. -/
theorem inb_xk (r k n : ℕ) (hr : r < 4) (hk : k + n ≤ 144) :
    ∀ a, (![r, k, 0] : Fin 3 → ℕ) a + (⟨3, ![1, n, 4096]⟩ : Shape).size a ≤ S4x144x4096.size a := by
  intro a
  match a with
  | ⟨0, _⟩ => show r + 1 ≤ 4; omega
  | ⟨1, _⟩ => show k + n ≤ 144; omega
  | ⟨2, _⟩ => show 0 + 4096 ≤ 4096; omega

/-- Image `b` lies in the result's block. -/
theorem inb_out (b : ℕ) (hb : b < 32) : ∀ a, (![b, 0, 0] : Fin 3 → ℕ) a + S1x32x4096.size a ≤ S32x32x4096.size a := by
  intro a
  match a with
  | ⟨0, _⟩ => show b + 1 ≤ 32; omega
  | ⟨1, _⟩ => show 0 + 32 ≤ 32; omega
  | ⟨2, _⟩ => show 0 + 4096 ≤ 4096; omega

/-- Row `t` lies in the indicators' block. -/
theorem inb_ind (t : ℕ) (ht : t < 10) : ∀ a, (![t, 0] : Fin 2 → ℕ) a + S1x4096.size a ≤ S10x4096.size a :=
  Fin.forall_fin_two.mpr ⟨by show t + 1 ≤ 10; omega, by show 0 + 4096 ≤ 4096; omega⟩

/-- A band of an even number of rows from an even row of the slab is whole words. -/
theorem packed_xk (r k n : ℕ) (hr : r < 4) (hk : k + n ≤ 144) (hk2 : 2 ∣ k) (hn2 : 2 ∣ n) :
    (Rect.unit (s := S4x144x4096) ![r, k, 0] (⟨3, ![1, n, 4096]⟩ : Shape).size (inb_xk r k n hr hk)).PackedRows (EltTy.packing .bf16) :=
  have h2 : 2 ≤ S4x144x4096.rank := by decide
  .inr ⟨h2, rfl, .inl ⟨hk2, hn2⟩⟩

/-- The nine rows from column `b * 4352` on, 4352 of them, are whole tiles. -/
theorem tiles_rhs (b : ℕ) (hb : b < 32) :
    (Rect.unit (s := S9x139264) ![0, b * 4352] S9x4352.size (inb_rhs b hb)).PackedTiles :=
  ⟨by decide, rfl, rfl, rfl, rfl, (by show 128 ∣ b * 4352; omega), (by show 128 ∣ 4352; decide)⟩

/-! ## The pieces -/

section Pieces

variable (arg1 : Memref sig .tc .vmem S32x4608 .bf16) (arg2 : Memref sig .tc .vmem S32x144 .bf16)
  (arg3 : Memref sig .tc .vmem S1x4352 .bf16) (arg4 : Memref sig .tc .vmem S10x4096 .bf16)
  (arg5 : Memref sig .tc .vmem S32x32x4096 .f32)
  (arg6 : Memref sig .tc .vmem S9x139264 .bf16) (harg6 : arg6.IsWhole)
  (arg7 : Memref sig .tc .vmem S4x144x4096 .bf16) (harg7 : arg7.IsWhole)

/-- The masked row of image `b` from column `s` on. -/
def masked (v w : Vec F S1x4352 .bf16) : FVec F S4352 .bf16 :=
  mulf (shapeCast S4352 v shapeCasts_S1x4352_S4352 : FVec F S4352 .bf16) (shapeCast S4352 w shapeCasts_S1x4352_S4352)

/-- Loads row `b` from column `s` on and masks it. -/
def ldRow (b s : ℕ) (hb : b < 32) (hs : s ≤ 256) : Prog (E F) (FVec F S4352 .bf16) := do
  let v : Vec F S1x4352 .bf16 ← Prog.lift (.load arg1 (Rect.unit (s := S32x4608) ![b, s] S1x4352.size (inb_x b s hb hs)).toLoadRect (View.loadsAt_vmem h_S1x4352))
  let w : Vec F S1x4352 .bf16 ← Prog.lift (.load arg3 (Rect.unit (s := S1x4352) ![0, 0] S1x4352.size inb_S1x4352_S1x4352_0_0).toLoadRect (View.loadsAt_vmem h_S1x4352))
  pure (masked v w)

/-- Nine rows stacked into one block. -/
def stack9 (v0 v1 v2 v3 v4 v5 v6 v7 v8 : FVec F S4352 .bf16) : FVec F S9x4352 .bf16 :=
  shapeCast S9x4352 (concatenate S9x4352 0 [⟨S1x4352, (shapeCast S1x4352 v0 shapeCasts_S4352_S1x4352 : FVec F S1x4352 .bf16)⟩,
    ⟨S1x4352, (shapeCast S1x4352 v1 shapeCasts_S4352_S1x4352 : FVec F S1x4352 .bf16)⟩, ⟨S1x4352, (shapeCast S1x4352 v2 shapeCasts_S4352_S1x4352 : FVec F S1x4352 .bf16)⟩,
    ⟨S1x4352, (shapeCast S1x4352 v3 shapeCasts_S4352_S1x4352 : FVec F S1x4352 .bf16)⟩, ⟨S1x4352, (shapeCast S1x4352 v4 shapeCasts_S4352_S1x4352 : FVec F S1x4352 .bf16)⟩,
    ⟨S1x4352, (shapeCast S1x4352 v5 shapeCasts_S4352_S1x4352 : FVec F S1x4352 .bf16)⟩, ⟨S1x4352, (shapeCast S1x4352 v6 shapeCasts_S4352_S1x4352 : FVec F S1x4352 .bf16)⟩,
    ⟨S1x4352, (shapeCast S1x4352 v7 shapeCasts_S4352_S1x4352 : FVec F S1x4352 .bf16)⟩, ⟨S1x4352, (shapeCast S1x4352 v8 shapeCasts_S4352_S1x4352 : FVec F S1x4352 .bf16)⟩]
    concatenates_S1x4352_S1x4352_S1x4352_S1x4352_S1x4352_S1x4352_S1x4352_S1x4352_S1x4352_S9x4352_d0 : FVec F S9x4352 .bf16) shapeCasts_S9x4352_S9x4352

/-- Fill image `b`'s stretch of the row scratch. -/
def fill (b : ℕ) (hb : b < 32) : Prog (E F) PUnit := do
  let v0 ← ldRow arg1 arg3 b 0 hb (by decide)
  let v1 ← ldRow arg1 arg3 b 1 hb (by decide)
  let v2 ← ldRow arg1 arg3 b 2 hb (by decide)
  let v3 ← ldRow arg1 arg3 b 64 hb (by decide)
  let v4 ← ldRow arg1 arg3 b 65 hb (by decide)
  let v5 ← ldRow arg1 arg3 b 66 hb (by decide)
  let v6 ← ldRow arg1 arg3 b 128 hb (by decide)
  let v7 ← ldRow arg1 arg3 b 129 hb (by decide)
  let v8 ← ldRow arg1 arg3 b 130 hb (by decide)
  let _ : Vec F S9x4352 .bf16 ← Prog.lift (.load arg6 (Rect.unit (s := S9x139264) ![0, b * 4352] S9x4352.size (inb_rhs b hb)).toLoadRect (View.loadsAt_vmem h_S9x4352))
  Prog.lift (.store arg6 (Rect.unit (s := S9x139264) ![0, b * 4352] S9x4352.size (inb_rhs b hb)) (stack9 v0 v1 v2 v3 v4 v5 v6 v7 v8) Finset.univ
    (View.stores_vmem h_S9x4352 (harg6.storeExact_slice_tiles rfl _ (tiles_rhs b hb)) (fun _ => rfl)) (.inl rfl))

/-- Copy the nine shifted rows of image `b` at shift `s` into rows `k … k + 8` of slab `r`. -/
def tap (b r s k : ℕ) (hb : b < 32) (hr : r < 4) (hs : s ≤ 256) (hk : k + 10 ≤ 144) (hk2 : 2 ∣ k) : Prog (E F) PUnit := do
  let v : Vec F S9x4096 .bf16 ← Prog.lift (.load arg6 (Rect.unit (s := S9x139264) ![0, b * 4352 + s] S9x4096.size (inb_tap b s hb hs)).toLoadRect (View.loadsAt_vmem h_S9x4096))
  let _ : Vec F S1x9x4096 .bf16 ← Prog.lift (.load arg7 (Rect.unit (s := S4x144x4096) ![r, k, 0] S1x9x4096.size (inb_xk r k 9 hr (by omega))).toLoadRect (View.loadsAt_vmem h_S1x9x4096))
  storeSubelements arg7 (Rect.unit (s := S4x144x4096) ![r, k, 0] S1x10x4096.size (inb_xk r k 10 hr hk))
    (fun old => updateSlice old (shapeCast S1x9x4096 v shapeCasts_S9x4096_S1x9x4096 : FVec F S1x9x4096 .bf16) ![0, 0, 0] slices_S1x10x4096_S1x9x4096_0_0_0)
    (View.loadsAt_vmem h_S1x10x4096) (View.stores_vmem h_S1x10x4096 (harg7.storeExact_slice rfl _ (packed_xk r k 10 hr hk hk2 (by decide))) (fun _ => rfl))

/-- The product of the weights with one slab. -/
def prod (w : Vec F S32x144 .bf16) (x : Vec F S1x144x4096 .bf16) : FVec F S1x32x4096 .f32 :=
  shapeCast S1x32x4096 (matmul dot_S32x144_S144x4096_S32x4096_1_0_0_1_n_n none (shapeCast S32x144 w shapeCasts_S32x144_S32x144 : FVec F S32x144 .bf16)
    (shapeCast S144x4096 x shapeCasts_S1x144x4096_S144x4096 : FVec F S144x4096 .bf16) (constant S32x4096 .f32 0x00000000#32 : FVec F S32x4096 .f32) : FVec F S32x4096 .f32)
    shapeCasts_S32x4096_S1x32x4096

/-- Image `b`: its nine taps into slab `r`, the product, the store of the result. -/
def image (b r : ℕ) (hb : b < 32) (hr : r < 4) : Prog (E F) PUnit := do
  tap arg6 arg7 harg7 b r 0 0 hb hr (by decide) (by decide) (by decide)
  tap arg6 arg7 harg7 b r 1 16 hb hr (by decide) (by decide) (by decide)
  tap arg6 arg7 harg7 b r 2 32 hb hr (by decide) (by decide) (by decide)
  tap arg6 arg7 harg7 b r 64 48 hb hr (by decide) (by decide) (by decide)
  tap arg6 arg7 harg7 b r 65 64 hb hr (by decide) (by decide) (by decide)
  tap arg6 arg7 harg7 b r 66 80 hb hr (by decide) (by decide) (by decide)
  tap arg6 arg7 harg7 b r 128 96 hb hr (by decide) (by decide) (by decide)
  tap arg6 arg7 harg7 b r 129 112 hb hr (by decide) (by decide) (by decide)
  tap arg6 arg7 harg7 b r 130 128 hb hr (by decide) (by decide) (by decide)
  let w : Vec F S32x144 .bf16 ← Prog.lift (.load arg2 (Rect.unit (s := S32x144) ![0, 0] S32x144.size inb_S32x144_S32x144_0_0).toLoadRect (View.loadsAt_vmem h_S32x144))
  let x : Vec F S1x144x4096 .bf16 ← Prog.lift (.load arg7 (Rect.unit (s := S4x144x4096) ![r, 0, 0] S1x144x4096.size (inb_xk r 0 144 hr (by decide))).toLoadRect (View.loadsAt_vmem h_S1x144x4096))
  let _ : Vec F S1x32x4096 .f32 ← Prog.lift (.load arg5 (Rect.unit (s := S32x32x4096) ![b, 0, 0] S1x32x4096.size (inb_out b hb)).toLoadRect (View.loadsAt_vmem h_S1x32x4096))
  Prog.lift (.store arg5 (Rect.unit (s := S32x32x4096) ![b, 0, 0] S1x32x4096.size (inb_out b hb)) (prod w x) Finset.univ (View.stores_vmem_bits_univ h_S1x32x4096 rfl) (.inl rfl))

/-- Row `t` of the indicator block as one row of a slab. -/
def indRow (v : Vec F S1x4096 .bf16) : FVec F S1x1x4096 .bf16 :=
  shapeCast S1x1x4096 (shapeCast S4096 v shapeCasts_S1x4096_S4096 : FVec F S4096 .bf16) shapeCasts_S4096_S1x1x4096

/-- Put indicator row `t` in the odd row `k + 1` of slab `r`. -/
def putOdd (r t k : ℕ) (hr : r < 4) (ht : t < 10) (hk : k + 2 ≤ 144) (hk2 : 2 ∣ k) : Prog (E F) PUnit := do
  let v : Vec F S1x4096 .bf16 ← Prog.lift (.load arg4 (Rect.unit (s := S10x4096) ![t, 0] S1x4096.size (inb_ind t ht)).toLoadRect (View.loadsAt_vmem h_S1x4096))
  let _ : Vec F S1x1x4096 .bf16 ← Prog.lift (.load arg7 (Rect.unit (s := S4x144x4096) ![r, k + 1, 0] S1x1x4096.size (inb_xk r (k + 1) 1 hr (by omega))).toLoadRect (View.loadsAt_vmem h_S1x1x4096))
  storeSubelements arg7 (Rect.unit (s := S4x144x4096) ![r, k, 0] S1x2x4096.size (inb_xk r k 2 hr hk))
    (fun old => updateSlice old (indRow v) ![0, 1, 0] slices_S1x2x4096_S1x1x4096_0_1_0)
    (View.loadsAt_vmem h_S1x2x4096) (View.stores_vmem h_S1x2x4096 (harg7.storeExact_slice rfl _ (packed_xk r k 2 hr hk hk2 (by decide))) (fun _ => rfl))

/-- Put indicator row `t` in the even row `k` of slab `r`. -/
def putEven (r t k : ℕ) (hr : r < 4) (ht : t < 10) (hk : k + 2 ≤ 144) (hk2 : 2 ∣ k) : Prog (E F) PUnit := do
  let v : Vec F S1x4096 .bf16 ← Prog.lift (.load arg4 (Rect.unit (s := S10x4096) ![t, 0] S1x4096.size (inb_ind t ht)).toLoadRect (View.loadsAt_vmem h_S1x4096))
  let _ : Vec F S1x1x4096 .bf16 ← Prog.lift (.load arg7 (Rect.unit (s := S4x144x4096) ![r, k, 0] S1x1x4096.size (inb_xk r k 1 hr (by omega))).toLoadRect (View.loadsAt_vmem h_S1x1x4096))
  storeSubelements arg7 (Rect.unit (s := S4x144x4096) ![r, k, 0] S1x2x4096.size (inb_xk r k 2 hr hk))
    (fun old => updateSlice old (indRow v) ![0, 0, 0] slices_S1x2x4096_S1x1x4096_0_0_0)
    (View.loadsAt_vmem h_S1x2x4096) (View.stores_vmem h_S1x2x4096 (harg7.storeExact_slice rfl _ (packed_xk r k 2 hr hk hk2 (by decide))) (fun _ => rfl))

/-- The constant rows of slab `r`. -/
def slabInit (r : ℕ) (hr : r < 4) : Prog (E F) PUnit := do
  putOdd arg4 arg7 harg7 r 0 8 hr (by decide) (by decide) (by decide)
  putOdd arg4 arg7 harg7 r 1 24 hr (by decide) (by decide) (by decide)
  putOdd arg4 arg7 harg7 r 2 40 hr (by decide) (by decide) (by decide)
  putOdd arg4 arg7 harg7 r 3 56 hr (by decide) (by decide) (by decide)
  putOdd arg4 arg7 harg7 r 4 72 hr (by decide) (by decide) (by decide)
  putOdd arg4 arg7 harg7 r 5 88 hr (by decide) (by decide) (by decide)
  putOdd arg4 arg7 harg7 r 6 104 hr (by decide) (by decide) (by decide)
  putOdd arg4 arg7 harg7 r 7 120 hr (by decide) (by decide) (by decide)
  putOdd arg4 arg7 harg7 r 8 136 hr (by decide) (by decide) (by decide)
  putEven arg4 arg7 harg7 r 9 10 hr (by decide) (by decide) (by decide)

/-- Zeros over the whole slab scratch. -/
def zeros : FVec F S4x144x4096 .bf16 :=
  shapeCast S4x144x4096 (broadcast S4x144x4096 (Scalar.ofBits .bf16 0x0000#16 : F .bf16) : FVec F S4x144x4096 .bf16) shapeCasts_S4x144x4096_S4x144x4096

/-- The set-up of the first grid point. -/
def setup : Prog (E F) PUnit := do
  let _ : Vec F S4x144x4096 .bf16 ← Prog.lift (.load arg7 (Rect.unit (s := S4x144x4096) ![0, 0, 0] S4x144x4096.size inb_S4x144x4096_S4x144x4096_0_0_0).toLoadRect (View.loadsAt_vmem h_S4x144x4096))
  Prog.lift (.store arg7 (Rect.unit (s := S4x144x4096) ![0, 0, 0] S4x144x4096.size inb_S4x144x4096_S4x144x4096_0_0_0) zeros Finset.univ (View.stores_vmem h_S4x144x4096 (harg7.storeExact_slice rfl _ packedbf16_S4x144x4096_S4x144x4096_0_0_0) (fun _ => rfl)) (.inl rfl))
  slabInit arg4 arg7 harg7 0 (by decide)
  slabInit arg4 arg7 harg7 1 (by decide)
  slabInit arg4 arg7 harg7 2 (by decide)
  slabInit arg4 arg7 harg7 3 (by decide)

/-- Fills `b … b + n - 1`, then `k`. -/
def fills (k : Prog (E F) PUnit) : (n b : ℕ) → b + n ≤ 32 → Prog (E F) PUnit
  | 0, _, _ => k
  | n + 1, b, h => fill arg1 arg3 arg6 harg6 b (by omega) >>= fun _ => fills k n (b + 1) (by omega)

/-- Images `b … b + n - 1`. -/
def images : (n b : ℕ) → b + n ≤ 32 → Prog (E F) PUnit
  | 0, _, _ => pure ⟨⟩
  | n + 1, b, h => image arg2 arg5 arg6 arg7 harg7 b (b % 4) (by omega) (Nat.mod_lt _ (by decide)) >>= fun _ => images n (b + 1) (by omega)

/-- What follows the set-up. -/
def rest : Prog (E F) PUnit :=
  fills arg1 arg3 arg6 harg6 (images arg2 arg5 arg6 arg7 harg7 32 0 (by decide)) 32 0 (by decide)

end Pieces

/-! ## The printed body is these pieces -/

/-- Two programs that begin with one effect and go on alike are one. -/
theorem op_congr {α β : Type} {e : E F β} {k k' : β → Prog (E F) α} (h : ∀ x, k x = k' x) : Prog.op e k = Prog.op e k' :=
  congrArg (Prog.op e) (funext h)

/-- The word the first-point branch tests. -/
abbrev firstWord (i : grid0.Coords) : BitVec 1 :=
  Scalar.cmpi .ne (Scalar.extui (Scalar.cmpi .eq (BitVec.ofNat 32 (i 0).val) 0#32) : BitVec 32) 0#32

/-- Two sequences with equal heads and equal continuations are equal. -/
theorem bind_congr' {α β : Type} {p p' : Prog (E F) α} {k k' : α → Prog (E F) β} (hp : p = p') (hk : ∀ x, k x = k' x) : (p >>= k) = (p' >>= k') := by
  rw [hp, funext hk]

section Equation

variable (i : grid0.Coords) (arg1 : Memref sig .tc .vmem S32x4608 .bf16) (harg1 : arg1.IsWhole) (arg2 : Memref sig .tc .vmem S32x144 .bf16) (harg2 : arg2.IsWhole) (arg3 : Memref sig .tc .vmem S1x4352 .bf16) (harg3 : arg3.IsWhole) (arg4 : Memref sig .tc .vmem S10x4096 .bf16) (harg4 : arg4.IsWhole) (arg5 : Memref sig .tc .vmem S32x32x4096 .f32) (harg5 : arg5.IsWhole) (arg6 : Memref sig .tc .vmem S9x139264 .bf16) (harg6 : arg6.IsWhole) (arg7 : Memref sig .tc .vmem S4x144x4096 .bf16) (harg7 : arg7.IsWhole)

/-- The first rows of the first image, as far as the printed statement group goes that holds the set-up's branch. -/
def firstRows : Prog (E F) (Σ' (_ : FVec F S4352 .bf16) (_ : FVec F S4352 .bf16) (_ : FVec F S4352 .bf16) (_ : FVec F S4352 .bf16) (_ : FVec F S4352 .bf16) (_ : FVec F S4352 .bf16), FVec F S4352 .bf16) := do
  let v0 ← ldRow arg1 arg3 0 0 (by decide) (by decide)
  let v1 ← ldRow arg1 arg3 0 1 (by decide) (by decide)
  let v2 ← ldRow arg1 arg3 0 2 (by decide) (by decide)
  let v3 ← ldRow arg1 arg3 0 64 (by decide) (by decide)
  let v4 ← ldRow arg1 arg3 0 65 (by decide) (by decide)
  let v : Vec F S1x4352 .bf16 ← Prog.lift (.load arg1 (Rect.unit (s := S32x4608) ![0, 66] S1x4352.size inb_S32x4608_S1x4352_0_66).toLoadRect (View.loadsAt_vmem h_S1x4352))
  let w : Vec F S1x4352 .bf16 ← Prog.lift (.load arg3 (Rect.unit (s := S1x4352) ![0, 0] S1x4352.size inb_S1x4352_S1x4352_0_0).toLoadRect (View.loadsAt_vmem h_S1x4352))
  pure ⟨v0, v1, v2, v3, v4, shapeCast S4352 v shapeCasts_S1x4352_S4352, shapeCast S4352 w shapeCasts_S1x4352_S4352⟩

set_option maxHeartbeats 4000000 in
/-- The printed statement group with the branch: the set-up at the first point, then the first rows. -/
theorem part8_eq : k0_part8 (F := F) i arg1 harg1 arg2 harg2 arg3 harg3 arg4 harg4 arg5 harg5 arg6 harg6 arg7 harg7
     = ((if _h : firstWord i = 1#1 then setup arg4 arg7 harg7 else pure ⟨⟩) >>= fun _ => firstRows arg1 arg3) := by
  unfold k0_part8
  dsimp only
  by_cases h : firstWord i = 1#1
  · rw [dif_pos h, dif_pos h]
    repeat (apply op_congr; intro _)
    rfl
  · rw [dif_neg h, dif_neg h]
    repeat (apply op_congr; intro _)
    rfl

set_option maxHeartbeats 40000000 in
/-- The printed body is the first point's set-up, at the first point only, and then the fills and the images. -/
theorem body_eq :
    cc0__net_kernel (F := F) i arg1 harg1 arg2 harg2 arg3 harg3 arg4 harg4 arg5 harg5 arg6 harg6 arg7 harg7
     = ((if _h : firstWord i = 1#1 then setup arg4 arg7 harg7 else pure ⟨⟩) >>= fun _ => rest arg1 arg2 arg3 arg5 arg6 harg6 arg7 harg7) := by
  unfold cc0__net_kernel k0_part117
  rw [part8_eq, bind_assoc, bind_assoc]
  refine bind_congr' rfl fun _ => ?_
  repeat (apply op_congr; intro _)
  rfl

end Equation

end Cert.KernelIdeal.Net

end
-- ==== Proof.KiRun.lean ====
/- What the pieces of the kernel body do to the buffers: each piece run from buffers held at stated
   contents ends with them held at stated contents (`Runs`), the input blocks untouched. -/
module

public import proofs.«01_k».proof.Proof.KiBody
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Net

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- `X` with the elements of rectangle `r` replaced by `w`. -/
def put {s : Shape} {α : Type} (X : s.Idx → α) (r : Rect s) (w : r.shape.Idx → α) : s.Idx → α :=
  fun y => open Classical in if h : ∃ x, r.emb x = y then w h.choose else X y

/-- `put` inside the rectangle. -/
theorem put_emb {s : Shape} {α : Type} (X : s.Idx → α) (r : Rect s) (w : r.shape.Idx → α) (x : r.shape.Idx) :
    put X r w (r.emb x) = w x := by
  have h : ∃ x', r.emb x' = r.emb x := ⟨x, rfl⟩
  unfold put
  rw [dif_pos h, r.emb.injective h.choose_spec]

/-- `put` outside the rectangle. -/
theorem put_other {s : Shape} {α : Type} (X : s.Idx → α) (r : Rect s) (w : r.shape.Idx → α) (y : s.Idx) (h : ¬ ∃ x, r.emb x = y) :
    put X r w y = X y := by
  unfold put
  rw [dif_neg h]

/-- What a store through a rectangle leaves, as the view reads it. -/
theorem read_write_put {sp : Space} {s : Shape} {e : EltTy} (v : View sig .tc sp s e) (r : Rect s) (f : v.ty.Contents (Elt F))
    (w : r.shape.Idx → Elt F e) : v.read (Elt F) ((v.slice r).write (Elt F) f w Finset.univ) = put (v.read (Elt F) f) r w := by
  funext y
  by_cases h : ∃ x, r.emb x = y
  · obtain ⟨x, rfl⟩ := h
    rw [put_emb, View.read_slice_write_emb _ _ _ (Finset.mem_univ x)]
  · rw [put_other _ _ _ _ h]
    refine View.read_slice_write_of_not_mem _ _ _ _ fun hm => h ?_
    obtain ⟨x, -, hx⟩ := Finset.mem_map.mp hm
    exact ⟨x, hx⟩

section Rules

variable (c : Dev nD) {sp : CoreSpace} {s : Shape} {e : EltTy} {α : Type}

/-- A load at the head of a program, from a memref held at contents `X`. -/
theorem owns_load (m : Memref sig .tc sp s e) (r : Rect s) (hl : m.view.LoadsAt r.toLoadRect)
    (k : (r.shape.Idx → Elt F e) → Prog (E F) α) (q : PosShare TreeShare) (X : s.Idx → Elt F e) (Q : α → sProp 𝕄) :
    (owns (c : Thread nD τ) m q X : sProp 𝕄)
      ⊢ iprop((owns (c : Thread nD τ) m q X -∗ wp frame (wpE (defs₀ (F := F)) Variants.none c none) Set.univ (k fun x => X (r.idx x)) Q)
        -∗ wp frame (wpE (defs₀ (F := F)) Variants.none c none) Set.univ (.op (.load m r.toLoadRect hl) k) Q) := by
  unfold owns
  iintro ⟨%f, %hf, H⟩ HK
  iapply (wp_load Variants.none (c : Thread nD τ) none Set.univ (m := m) (r := r.toLoadRect) (hl := hl) (k := k) (Q := Q) (S := m.view.set) (q := q) (f := f) (View.setOn_subset_set _ _)) $$ H
  iintro H
  have hx : m.view.readAt (Elt F) r.toLoadRect f = fun x => X (r.idx x) := by subst hf; rfl
  rw [hx]
  iapply HK
  iexists f
  isplitr
  · ipureintro; exact hf
  iexact H

/-- A whole-rectangle store at the head of a program, to a memref held at contents `X`. -/
theorem owns_store (m : Memref sig .tc sp s e) (r : Rect s) (w : r.shape.Idx → Elt F e) (hx : (m.access r).Stores Finset.univ)
    (hm : (Finset.univ : Finset r.shape.Idx) = Finset.univ ∨ ∀ a, r.stride a = 1)
    (k : PUnit → Prog (E F) α) (X : s.Idx → Elt F e) (Q : α → sProp 𝕄) :
    (owns (c : Thread nD τ) m fullShare X : sProp 𝕄)
      ⊢ iprop((owns (c : Thread nD τ) m fullShare (put X r w) -∗ wp frame (wpE (defs₀ (F := F)) Variants.none c none) Set.univ (k ⟨⟩) Q)
        -∗ wp frame (wpE (defs₀ (F := F)) Variants.none c none) Set.univ (.op (.store m r w Finset.univ hx hm) k) Q) := by
  unfold owns
  iintro ⟨%f, %hf, H⟩ HK
  iapply (wp_store Variants.none (c : Thread nD τ) none Set.univ (m := m) (r := r) (w := w) (Mk := Finset.univ) (hx := hx) (hm := hm) (k := k) (Q := Q) (S := m.view.set) (f := f) (View.set_slice_subset _ _)) $$ H
  iintro H
  iapply HK
  iexists _
  isplitr
  swap
  · iexact H
  · ipureintro; subst hf; exact read_write_put _ _ _ _

end Rules

/-! ## The buffers a body point holds -/

/-- The contents of the three buffers the body writes. -/
structure St (F : FTy → Type) where
  /-- The result block. -/
  o : Vec F S32x32x4096 .f32
  /-- The scratch of shifted, masked rows. -/
  rhs : Vec F S9x139264 .bf16
  /-- The scratch of four slabs. -/
  xk : Vec F S4x144x4096 .bf16

section Runs

variable (c : Dev nD) (arg1 : Memref sig .tc .vmem S32x4608 .bf16) (arg2 : Memref sig .tc .vmem S32x144 .bf16)
  (arg3 : Memref sig .tc .vmem S1x4352 .bf16) (arg4 : Memref sig .tc .vmem S10x4096 .bf16)
  (arg5 : Memref sig .tc .vmem S32x32x4096 .f32)
  (arg6 : Memref sig .tc .vmem S9x139264 .bf16) (harg6 : arg6.IsWhole)
  (arg7 : Memref sig .tc .vmem S4x144x4096 .bf16) (harg7 : arg7.IsWhole)
  (x1 : Vec F S32x4608 .bf16) (x2 : Vec F S32x144 .bf16) (x3 : Vec F S1x4352 .bf16) (x4 : Vec F S10x4096 .bf16)

/-- The seven buffers, held at the contents of the inputs and of the state. -/
def Own (st : St F) : sProp 𝕄 :=
  iprop(owns (c : Thread nD τ) arg1 fullShare x1 ∗ owns (c : Thread nD τ) arg2 fullShare x2 ∗ owns (c : Thread nD τ) arg3 fullShare x3
    ∗ owns (c : Thread nD τ) arg4 fullShare x4 ∗ owns (c : Thread nD τ) arg5 fullShare st.o
    ∗ owns (c : Thread nD τ) arg6 fullShare st.rhs ∗ owns (c : Thread nD τ) arg7 fullShare st.xk)

/-- The program run from state `st` ends in state `st'` with the value `a`. -/
def Runs {α : Type} (p : Prog (E F) α) (st st' : St F) (a : α) : Prop :=
  ∀ K : α → sProp 𝕄, iprop(Own c arg1 arg2 arg3 arg4 arg5 arg6 arg7 x1 x2 x3 x4 st
      ∗ (Own c arg1 arg2 arg3 arg4 arg5 arg6 arg7 x1 x2 x3 x4 st' -∗ K a))
    ⊢ wp frame (wpE (defs₀ (F := F)) Variants.none c none) Set.univ p K

/-- A program that only returns leaves the state as it was. -/
theorem Runs.pure {α : Type} (a : α) (st : St F) : Runs c arg1 arg2 arg3 arg4 arg5 arg6 arg7 x1 x2 x3 x4 (pure a) st st a := by
  intro K
  iintro ⟨H, HK⟩
  iapply (le_wp_ret frame (wpE (defs₀ (F := F)) Variants.none c none) Set.univ a K)
  iapply HK $$ H

variable {c arg1 arg2 arg3 arg4 arg5 arg6 arg7 x1 x2 x3 x4}

/-- Two programs in a row. -/
theorem Runs.bind {α β : Type} {p : Prog (E F) α} {k : α → Prog (E F) β} {st st1 st2 : St F} {a : α} {b : β}
    (hp : Runs c arg1 arg2 arg3 arg4 arg5 arg6 arg7 x1 x2 x3 x4 p st st1 a)
    (hk : Runs c arg1 arg2 arg3 arg4 arg5 arg6 arg7 x1 x2 x3 x4 (k a) st1 st2 b) :
    Runs c arg1 arg2 arg3 arg4 arg5 arg6 arg7 x1 x2 x3 x4 (p >>= k) st st2 b := by
  intro K
  rw [wp_bind]
  iintro ⟨H, HK⟩
  iapply (hp fun x => wp frame (wpE (defs₀ (F := F)) Variants.none c none) Set.univ (k x) K)
  isplitl [H]
  · iexact H
  iintro H
  iapply (hk K)
  isplitl [H]
  · iexact H
  iexact HK

/-- A load from one of the held buffers. -/
theorem Runs.load {sp : CoreSpace} {s : Shape} {e : EltTy} (m : Memref sig .tc sp s e) (X : s.Idx → Elt F e) (st : St F)
    (hfoc : Own c arg1 arg2 arg3 arg4 arg5 arg6 arg7 x1 x2 x3 x4 st
      ⊢ iprop(owns (c : Thread nD τ) m fullShare X ∗ (owns (c : Thread nD τ) m fullShare X -∗ Own c arg1 arg2 arg3 arg4 arg5 arg6 arg7 x1 x2 x3 x4 st)))
    (r : Rect s) (hl : m.view.LoadsAt r.toLoadRect) :
    Runs c arg1 arg2 arg3 arg4 arg5 arg6 arg7 x1 x2 x3 x4 (Prog.lift (.load m r.toLoadRect hl)) st st (fun x => X (r.idx x)) := by
  intro K
  refine (sep_mono_left hfoc).trans ?_
  iintro ⟨⟨H, HB⟩, HK⟩
  iapply (owns_load c m r hl (fun x => Prog.ret x) fullShare X K) $$ H
  iintro H
  iapply (le_wp_ret frame (wpE (defs₀ (F := F)) Variants.none c none) Set.univ _ K)
  iapply HK
  iapply HB $$ H

/-- A store to one of the held buffers. -/
theorem Runs.store {sp : CoreSpace} {s : Shape} {e : EltTy} (m : Memref sig .tc sp s e) (X : s.Idx → Elt F e) (r : Rect s) (w : r.shape.Idx → Elt F e)
    (st st' : St F)
    (hfoc : Own c arg1 arg2 arg3 arg4 arg5 arg6 arg7 x1 x2 x3 x4 st
      ⊢ iprop(owns (c : Thread nD τ) m fullShare X ∗ (owns (c : Thread nD τ) m fullShare (put X r w) -∗ Own c arg1 arg2 arg3 arg4 arg5 arg6 arg7 x1 x2 x3 x4 st')))
    (hx : (m.access r).Stores Finset.univ) (hm : (Finset.univ : Finset r.shape.Idx) = Finset.univ ∨ ∀ a, r.stride a = 1) :
    Runs c arg1 arg2 arg3 arg4 arg5 arg6 arg7 x1 x2 x3 x4 (Prog.lift (.store m r w Finset.univ hx hm)) st st' ⟨⟩ := by
  intro K
  refine (sep_mono_left hfoc).trans ?_
  iintro ⟨⟨H, HB⟩, HK⟩
  iapply (owns_store c m r w hx hm (fun x => Prog.ret x) X K) $$ H
  iintro H
  iapply (le_wp_ret frame (wpE (defs₀ (F := F)) Variants.none c none) Set.univ _ K)
  iapply HK
  iapply HB $$ H

/-! ### One buffer out of the seven -/

/-- The block of the images out of the seven buffers, and back. -/
theorem foc1 (st : St F) : Own c arg1 arg2 arg3 arg4 arg5 arg6 arg7 x1 x2 x3 x4 st
    ⊢ iprop(owns (c : Thread nD τ) arg1 fullShare x1 ∗ (owns (c : Thread nD τ) arg1 fullShare x1 -∗ Own c arg1 arg2 arg3 arg4 arg5 arg6 arg7 x1 x2 x3 x4 st)) := by
  unfold Own
  iintro ⟨H1, H2, H3, H4, H5, H6, H7⟩
  isplitl [H1]; · iexact H1
  iintro H1
  iframe

/-- The block of the weights out of the seven buffers, and back. -/
theorem foc2 (st : St F) : Own c arg1 arg2 arg3 arg4 arg5 arg6 arg7 x1 x2 x3 x4 st
    ⊢ iprop(owns (c : Thread nD τ) arg2 fullShare x2 ∗ (owns (c : Thread nD τ) arg2 fullShare x2 -∗ Own c arg1 arg2 arg3 arg4 arg5 arg6 arg7 x1 x2 x3 x4 st)) := by
  unfold Own
  iintro ⟨H1, H2, H3, H4, H5, H6, H7⟩
  isplitl [H2]; · iexact H2
  iintro H2
  iframe

/-- The block of the mask out of the seven buffers, and back. -/
theorem foc3 (st : St F) : Own c arg1 arg2 arg3 arg4 arg5 arg6 arg7 x1 x2 x3 x4 st
    ⊢ iprop(owns (c : Thread nD τ) arg3 fullShare x3 ∗ (owns (c : Thread nD τ) arg3 fullShare x3 -∗ Own c arg1 arg2 arg3 arg4 arg5 arg6 arg7 x1 x2 x3 x4 st)) := by
  unfold Own
  iintro ⟨H1, H2, H3, H4, H5, H6, H7⟩
  isplitl [H3]; · iexact H3
  iintro H3
  iframe

/-- The block of the indicators out of the seven buffers, and back. -/
theorem foc4 (st : St F) : Own c arg1 arg2 arg3 arg4 arg5 arg6 arg7 x1 x2 x3 x4 st
    ⊢ iprop(owns (c : Thread nD τ) arg4 fullShare x4 ∗ (owns (c : Thread nD τ) arg4 fullShare x4 -∗ Own c arg1 arg2 arg3 arg4 arg5 arg6 arg7 x1 x2 x3 x4 st)) := by
  unfold Own
  iintro ⟨H1, H2, H3, H4, H5, H6, H7⟩
  isplitl [H4]; · iexact H4
  iintro H4
  iframe

/-- The result's block out of the seven buffers, and back with new contents. -/
theorem foc5 (st : St F) (o' : Vec F S32x32x4096 .f32) : Own c arg1 arg2 arg3 arg4 arg5 arg6 arg7 x1 x2 x3 x4 st
    ⊢ iprop(owns (c : Thread nD τ) arg5 fullShare st.o ∗ (owns (c : Thread nD τ) arg5 fullShare o' -∗ Own c arg1 arg2 arg3 arg4 arg5 arg6 arg7 x1 x2 x3 x4 { st with o := o' })) := by
  unfold Own
  iintro ⟨H1, H2, H3, H4, H5, H6, H7⟩
  isplitl [H5]; · iexact H5
  iintro H5
  iframe

/-- The buffer of shifted rows out of the seven buffers, and back with new contents. -/
theorem foc6 (st : St F) (o' : Vec F S9x139264 .bf16) : Own c arg1 arg2 arg3 arg4 arg5 arg6 arg7 x1 x2 x3 x4 st
    ⊢ iprop(owns (c : Thread nD τ) arg6 fullShare st.rhs ∗ (owns (c : Thread nD τ) arg6 fullShare o' -∗ Own c arg1 arg2 arg3 arg4 arg5 arg6 arg7 x1 x2 x3 x4 { st with rhs := o' })) := by
  unfold Own
  iintro ⟨H1, H2, H3, H4, H5, H6, H7⟩
  isplitl [H6]; · iexact H6
  iintro H6
  iframe

/-- The buffer of slabs out of the seven buffers, and back with new contents. -/
theorem foc7 (st : St F) (o' : Vec F S4x144x4096 .bf16) : Own c arg1 arg2 arg3 arg4 arg5 arg6 arg7 x1 x2 x3 x4 st
    ⊢ iprop(owns (c : Thread nD τ) arg7 fullShare st.xk ∗ (owns (c : Thread nD τ) arg7 fullShare o' -∗ Own c arg1 arg2 arg3 arg4 arg5 arg6 arg7 x1 x2 x3 x4 { st with xk := o' })) := by
  unfold Own
  iintro ⟨H1, H2, H3, H4, H5, H6, H7⟩
  isplitl [H7]; · iexact H7
  iintro H7
  iframe

end Runs

end Cert.KernelIdeal.Net

end
-- ==== Proof.KiPieces.lean ====
/- Each piece of the kernel body, run: what it leaves in the buffers, element by element. -/
module

public import proofs.«01_k».proof.Proof.KiRun
public import Idealize.ShloMosaic.Lib.Pointwise
public import Idealize.ShloMosaic.Lib.WritesUnit

@[expose] public section

set_option maxRecDepth 16384

noncomputable section

namespace Cert.KernelIdeal.Net

open Cert.KernelIdeal
open Idealize.ShloMosaic Idealize.ShloMosaic.TcCoe Idealize.ShloMosaic.Tactic
open Idealize.SL Idealize.SL.RA Idealize.SL.BI
open Idealize.SL.Sem

variable {F : FTy → Type} [FloatOps F]

/-! ## Reading a put at an index -/

/-- A put through a unit-stride rectangle, read at an index. -/
theorem put_unit {s : Shape} {α : Type} (X : s.Idx → α) (off size : Fin s.rank → ℕ) (inb : ∀ a, off a + size a ≤ s.size a)
    (w : (Rect.unit off size inb).shape.Idx → α) (y : s.Idx) :
    put X (Rect.unit off size inb) w y
      = if h : ∀ a, off a ≤ (y a).val ∧ (y a).val < off a + size a then w (Rect.unitLocal (s := s) (off := off) (size := size) y h) else X y := by
  by_cases h : ∀ a, off a ≤ (y a).val ∧ (y a).val < off a + size a
  · rw [dif_pos h]
    have hy : (Rect.unit off size inb).emb (Rect.unitLocal (s := s) (off := off) (size := size) y h) = y := funext fun a => Fin.ext (by
      show off a + 1 * ((y a).val - off a) = (y a).val
      have := h a; omega)
    exact (congrArg (put X (Rect.unit off size inb) w) hy.symm).trans (put_emb _ _ _ _)
  · rw [dif_neg h]
    refine put_other _ _ _ _ fun ⟨x, hx⟩ => h fun a => ?_
    have e : (y a).val = off a + 1 * (x a).val := by rw [← hx]; rfl
    have := (x a).isLt
    have hs : ((Rect.unit off size inb).shape.size a : ℕ) = size a := rfl
    omega

/-- The shift of tap `t`. -/
def sh (t : ℕ) : ℕ := 64 * (t / 3) + t % 3

/-- A tap's shift is at most 130. -/
theorem sh_le {t : ℕ} (h : t < 9) : sh t ≤ 130 := by unfold sh; omega

/-- The shifted and masked rows: row `u`, column `l` of image `b` is the image at `l` plus the shift of `u`, masked. -/
def rhsOf (x1 : Vec F S32x4608 .bf16) (x3 : Vec F S1x4352 .bf16) : Vec F S9x139264 .bf16 := fun y =>
  FloatOps.mulf (x1 (ix2 ⟨(y 1).val / 4352, by have : (y 1).val < 139264 := (y 1).isLt; omega⟩
      ⟨sh (y 0).val + (y 1).val % 4352, by have := sh_le (t := (y 0).val) (y 0).isLt; omega⟩))
    (x3 (ix2 0 ⟨(y 1).val % 4352, Nat.mod_lt _ (by decide)⟩))

/-- What `ldRow` yields. -/
def rowAt (x1 : Vec F S32x4608 .bf16) (x3 : Vec F S1x4352 .bf16) (b s : ℕ) (hb : b < 32) (hs : s ≤ 256) : FVec F S4352 .bf16 :=
  masked (fun x => x1 ((Rect.unit (s := S32x4608) ![b, s] S1x4352.size (inb_x b s hb hs)).idx x))
    (fun x => x3 ((Rect.unit (s := S1x4352) ![0, 0] S1x4352.size Shapes1.Facts₀.inb_S1x4352_S1x4352_0_0).idx x))

/-- An element of what `ldRow` yields: the shifted image's times the mask's. -/
theorem rowAt_apply (x1 : Vec F S32x4608 .bf16) (x3 : Vec F S1x4352 .bf16) (b s : ℕ) (hb : b < 32) (hs : s ≤ 256) (l : Fin 4352) :
    rowAt x1 x3 b s hb hs (ix1 l) = FloatOps.mulf (x1 (ix2 ⟨b, hb⟩ ⟨s + l.val, by omega⟩)) (x3 (ix2 0 l)) := by
  unfold rowAt masked
  pointwise

/-- Row `u` of nine stacked rows is the `u`-th. -/
theorem stack9_apply (v : Fin 9 → FVec F S4352 .bf16) (u : Fin 9) (l : Fin 4352) :
    stack9 (v 0) (v 1) (v 2) (v 3) (v 4) (v 5) (v 6) (v 7) (v 8) (ix2 u l) = v u (ix1 l) := by
  unfold stack9
  pointwise
  fin_vals u with hu
  all_goals simp only [hu, Nat.reduceSub, Nat.reduceLT, ↓reduceDIte]
  all_goals exact congrArg (fun w : Fin 9 => v w (ix1 l)) (Fin.ext hu.symm)

/-- A filled stretch: the rows of image `b` are the masked rows, the others as before. -/
theorem fill_put (x1 : Vec F S32x4608 .bf16) (x3 : Vec F S1x4352 .bf16) (X : Vec F S9x139264 .bf16) (b : ℕ) (hb : b < 32)
    (v : Fin 9 → FVec F S4352 .bf16) (hv : ∀ u l, v u (ix1 l) = FloatOps.mulf (x1 (ix2 ⟨b, hb⟩ ⟨sh u.val + l.val, by have := sh_le u.isLt; omega⟩)) (x3 (ix2 0 l))) :
    put X (Rect.unit (s := S9x139264) ![0, b * 4352] S9x4352.size (inb_rhs b hb)) (stack9 (v 0) (v 1) (v 2) (v 3) (v 4) (v 5) (v 6) (v 7) (v 8))
      = fun y => if (y 1).val / 4352 = b then rhsOf x1 x3 y else X y := by
  funext y
  obtain ⟨u, l, rfl⟩ : ∃ (u : Fin 9) (l : Fin 139264), y = ix2 u l := ⟨y 0, y 1, eq_ix2 y⟩
  rw [put_unit]
  by_cases h : l.val / 4352 = b
  · have hl : l.val - b * 4352 < 4352 := by omega
    have hall : ∀ a, (![0, b * 4352] : Fin 2 → ℕ) a ≤ ((ix2 u l : S9x139264.Idx) a).val ∧ ((ix2 u l : S9x139264.Idx) a).val < (![0, b * 4352] : Fin 2 → ℕ) a + S9x4352.size a :=
      Fin.forall_fin_two.mpr ⟨⟨Nat.zero_le _, by show u.val < 0 + 9; omega⟩, by show b * 4352 ≤ l.val; omega, by show l.val < b * 4352 + 4352; omega⟩
    rw [dif_pos hall]
    have e : (Rect.unitLocal (s := S9x139264) (off := ![0, b * 4352]) (size := S9x4352.size) (ix2 u l) hall) = ix2 u ⟨l.val - b * 4352, hl⟩ := by
      funext a; match a with | ⟨0, _⟩ => exact Fin.ext (Nat.sub_zero _) | ⟨1, _⟩ => rfl
    rw [e, stack9_apply, hv]
    show _ = if l.val / 4352 = b then _ else _
    rw [if_pos h]
    subst h
    unfold rhsOf
    have e2 : l.val - l.val / 4352 * 4352 = l.val % 4352 := by omega
    simp only [ix2_0, ix2_1, e2]
  · rw [dif_neg fun hall => h (by
      have h1 : b * 4352 ≤ l.val := (hall 1).1
      have h2 : l.val < b * 4352 + 4352 := (hall 1).2
      omega)]
    show _ = if l.val / 4352 = b then _ else _
    rw [if_neg h]

/-- Rows `k … k + 8` of slab `r` taken from the row scratch at image `b`, shift `s`. -/
def tapped (R : Vec F S9x139264 .bf16) (b r s k : ℕ) (hb : b < 32) (hs : s ≤ 256) (X : Vec F S4x144x4096 .bf16) : Vec F S4x144x4096 .bf16 := fun y =>
  if h : (y 0).val = r ∧ k ≤ (y 1).val ∧ (y 1).val < k + 9 then
    R (ix2 ⟨(y 1).val - k, by omega⟩ ⟨b * 4352 + s + (y 2).val, by have : (y 2).val < 4096 := (y 2).isLt; omega⟩)
  else X y

/-- `tapped` at coordinates. -/
theorem tapped_apply (R : Vec F S9x139264 .bf16) (b r s k : ℕ) (hb : b < 32) (hs : s ≤ 256) (X : Vec F S4x144x4096 .bf16) (r' : Fin 4) (k' : Fin 144) (p : Fin 4096) :
    tapped R b r s k hb hs X (ix3 r' k' p)
      = if h : r'.val = r ∧ k ≤ k'.val ∧ k'.val < k + 9 then R (ix2 ⟨k'.val - k, by omega⟩ ⟨b * 4352 + s + p.val, by omega⟩) else X (ix3 r' k' p) := rfl

/-- Nine rows laid over the first nine of ten. -/
theorem over9 (old : Vec F S1x10x4096 .bf16) (v : Vec F S9x4096 .bf16) (k : Fin 10) (p : Fin 4096) :
    updateSlice old (shapeCast S1x9x4096 v Shapes1.Facts₀.shapeCasts_S9x4096_S1x9x4096 : FVec F S1x9x4096 .bf16)
        ![0, 0, 0] Shapes1.Facts₀.slices_S1x10x4096_S1x9x4096_0_0_0 (ix3 0 k p)
      = if h : k.val < 9 then v (ix2 ⟨k.val, h⟩ p) else old (ix3 0 k p) := by
  pointwise

/-- Storing the updated band of ten rows leaves `tapped`. -/
theorem tap_put (R : Vec F S9x139264 .bf16) (X : Vec F S4x144x4096 .bf16) (b r s k : ℕ) (hb : b < 32) (hr : r < 4) (hs : s ≤ 256) (hk : k + 10 ≤ 144) :
    put X (Rect.unit (s := S4x144x4096) ![r, k, 0] S1x10x4096.size (inb_xk r k 10 hr hk))
      (updateSlice (fun x => X ((Rect.unit (s := S4x144x4096) ![r, k, 0] S1x10x4096.size (inb_xk r k 10 hr hk)).idx x))
        (shapeCast S1x9x4096 (fun x => R ((Rect.unit (s := S9x139264) ![0, b * 4352 + s] S9x4096.size (inb_tap b s hb hs)).idx x)) Shapes1.Facts₀.shapeCasts_S9x4096_S1x9x4096 : FVec F S1x9x4096 .bf16)
        ![0, 0, 0] Shapes1.Facts₀.slices_S1x10x4096_S1x9x4096_0_0_0)
      = tapped R b r s k hb hs X := by
  funext y
  obtain ⟨r', k', p, rfl⟩ : ∃ (r' : Fin 4) (k' : Fin 144) (p : Fin 4096), y = ix3 r' k' p := ⟨y 0, y 1, y 2, eq_ix3 y⟩
  rw [put_unit]
  rw [tapped_apply]
  by_cases h : r'.val = r ∧ k ≤ k'.val ∧ k'.val < k + 10
  · have hall : ∀ a, (![r, k, 0] : Fin 3 → ℕ) a ≤ ((ix3 r' k' p : S4x144x4096.Idx) a).val ∧ ((ix3 r' k' p : S4x144x4096.Idx) a).val < (![r, k, 0] : Fin 3 → ℕ) a + S1x10x4096.size a := by
      intro a
      match a with
      | ⟨0, _⟩ => exact ⟨by show r ≤ r'.val; omega, by show r'.val < r + 1; omega⟩
      | ⟨1, _⟩ => exact ⟨h.2.1, h.2.2⟩
      | ⟨2, _⟩ => exact ⟨Nat.zero_le _, by show p.val < 0 + 4096; omega⟩
    rw [dif_pos hall]
    have e : (Rect.unitLocal (s := S4x144x4096) (off := ![r, k, 0]) (size := S1x10x4096.size) (ix3 r' k' p) hall) = ix3 (0 : Fin 1) (⟨k'.val - k, by omega⟩ : Fin 10) p := by
      funext a; match a with | ⟨0, _⟩ => exact Fin.ext (by show r'.val - r = 0; omega) | ⟨1, _⟩ => rfl | ⟨2, _⟩ => exact Fin.ext (Nat.sub_zero _)
    rw [e]
    rw [over9]
    by_cases h9 : k'.val < k + 9
    · rw [dif_pos (show k'.val - k < 9 by omega), dif_pos ⟨h.1, h.2.1, h9⟩]
      refine congrArg R (funext fun a => ?_)
      match a with
      | ⟨0, _⟩ => exact Fin.ext (show 0 + 1 * (k'.val - k) = k'.val - k by omega)
      | ⟨1, _⟩ => exact Fin.ext (show b * 4352 + s + 1 * p.val = b * 4352 + s + p.val by omega)
    · rw [dif_neg (show ¬ (k'.val - k < 9) by omega), dif_neg fun h' => h9 h'.2.2]
      refine congrArg X (funext fun a => ?_)
      match a with
      | ⟨0, _⟩ => exact Fin.ext (show r + 1 * 0 = r'.val by omega)
      | ⟨1, _⟩ => exact Fin.ext (show k + 1 * (k'.val - k) = k'.val by omega)
      | ⟨2, _⟩ => exact Fin.ext (show 0 + 1 * p.val = p.val by omega)
  · rw [dif_neg fun hall => h ⟨by
      have h1 : r ≤ r'.val := (hall 0).1
      have h2 : r'.val < r + 1 := (hall 0).2
      omega, (hall 1).1, (hall 1).2⟩, dif_neg fun h' => h ⟨h'.1, h'.2.1, by omega⟩]

/-- Slab `r` with its row `k` replaced by row `t` of the indicator block. -/
def withRow (x4 : Vec F S10x4096 .bf16) (r t k : ℕ) (ht : t < 10) (X : Vec F S4x144x4096 .bf16) : Vec F S4x144x4096 .bf16 := fun y =>
  if (y 0).val = r ∧ (y 1).val = k then x4 (ix2 ⟨t, ht⟩ (y 2)) else X y

/-- `withRow` at coordinates. -/
theorem withRow_apply (x4 : Vec F S10x4096 .bf16) (r t k : ℕ) (ht : t < 10) (X : Vec F S4x144x4096 .bf16) (r' : Fin 4) (k' : Fin 144) (p : Fin 4096) :
    withRow x4 r t k ht X (ix3 r' k' p) = if r'.val = r ∧ k'.val = k then x4 (ix2 ⟨t, ht⟩ p) else X (ix3 r' k' p) := rfl

/-- One row laid over the second of two. -/
theorem over1odd (old : Vec F S1x2x4096 .bf16) (v : Vec F S1x4096 .bf16) (k : Fin 2) (p : Fin 4096) :
    updateSlice old (indRow v) ![0, 1, 0] Shapes1.Facts₀.slices_S1x2x4096_S1x1x4096_0_1_0 (ix3 0 k p)
      = if k.val = 1 then v (ix2 0 p) else old (ix3 0 k p) := by
  unfold indRow
  pointwise
  fin_vals k with hk
  all_goals simp [hk]

/-- One row laid over the first of two. -/
theorem over1even (old : Vec F S1x2x4096 .bf16) (v : Vec F S1x4096 .bf16) (k : Fin 2) (p : Fin 4096) :
    updateSlice old (indRow v) ![0, 0, 0] Shapes1.Facts₀.slices_S1x2x4096_S1x1x4096_0_0_0 (ix3 0 k p)
      = if k.val = 0 then v (ix2 0 p) else old (ix3 0 k p) := by
  unfold indRow
  pointwise
  fin_vals k with hk
  all_goals simp [hk]

/-- A pair of rows of which one is replaced. -/
theorem pair_put (x4 : Vec F S10x4096 .bf16) (X : Vec F S4x144x4096 .bf16) (r t k i : ℕ) (hr : r < 4) (ht : t < 10) (hk : k + 2 ≤ 144) (hi : i < 2)
    (w : FVec F S1x2x4096 .bf16)
    (hw : ∀ (j : Fin 2) (p : Fin 4096), w (ix3 0 j p) = if j.val = i then x4 (ix2 ⟨t, ht⟩ p) else X (ix3 ⟨r, hr⟩ ⟨k + j.val, by omega⟩ p)) :
    put X (Rect.unit (s := S4x144x4096) ![r, k, 0] S1x2x4096.size (inb_xk r k 2 hr hk)) w = withRow x4 r t (k + i) ht X := by
  funext y
  obtain ⟨r', k', p, rfl⟩ : ∃ (r' : Fin 4) (k' : Fin 144) (p : Fin 4096), y = ix3 r' k' p := ⟨y 0, y 1, y 2, eq_ix3 y⟩
  rw [put_unit]
  rw [withRow_apply]
  by_cases h : r'.val = r ∧ k ≤ k'.val ∧ k'.val < k + 2
  · have hall : ∀ a, (![r, k, 0] : Fin 3 → ℕ) a ≤ ((ix3 r' k' p : S4x144x4096.Idx) a).val ∧ ((ix3 r' k' p : S4x144x4096.Idx) a).val < (![r, k, 0] : Fin 3 → ℕ) a + S1x2x4096.size a := by
      intro a
      match a with
      | ⟨0, _⟩ => exact ⟨by show r ≤ r'.val; omega, by show r'.val < r + 1; omega⟩
      | ⟨1, _⟩ => exact ⟨h.2.1, h.2.2⟩
      | ⟨2, _⟩ => exact ⟨Nat.zero_le _, by show p.val < 0 + 4096; omega⟩
    rw [dif_pos hall]
    have e : (Rect.unitLocal (s := S4x144x4096) (off := ![r, k, 0]) (size := S1x2x4096.size) (ix3 r' k' p) hall) = ix3 (0 : Fin 1) (⟨k'.val - k, by omega⟩ : Fin 2) p := by
      funext a; match a with | ⟨0, _⟩ => exact Fin.ext (by show r'.val - r = 0; omega) | ⟨1, _⟩ => rfl | ⟨2, _⟩ => exact Fin.ext (Nat.sub_zero _)
    rw [e, hw]
    by_cases h9 : k'.val = k + i
    · rw [if_pos (show k'.val - k = i by omega), if_pos ⟨h.1, h9⟩]
    · rw [if_neg (show ¬ (k'.val - k = i) by omega), if_neg fun h' => h9 h'.2]
      refine congrArg X (funext fun a => ?_)
      match a with
      | ⟨0, _⟩ => exact Fin.ext h.1.symm
      | ⟨1, _⟩ => exact Fin.ext (show k + (k'.val - k) = k'.val by omega)
      | ⟨2, _⟩ => rfl
  · rw [dif_neg fun hall => h ⟨by
      have h1 : r ≤ r'.val := (hall 0).1
      have h2 : r'.val < r + 1 := (hall 0).2
      omega, (hall 1).1, (hall 1).2⟩, if_neg fun h' => h ⟨h'.1, by omega, by omega⟩]

/-- A put over the whole shape leaves what is put. -/
theorem whole_put (X w : Vec F S4x144x4096 .bf16) :
    put X (Rect.unit (s := S4x144x4096) ![0, 0, 0] S4x144x4096.size Shapes1.Facts₀.inb_S4x144x4096_S4x144x4096_0_0_0) w = w := by
  funext y
  rw [put_unit, dif_pos (by
    intro a
    match a with
    | ⟨0, h⟩ => exact ⟨Nat.zero_le _, by show (y ⟨0, h⟩).val < 0 + 4; have := (y ⟨0, h⟩).isLt; rw [Nat.zero_add]; exact this⟩
    | ⟨1, h⟩ => exact ⟨Nat.zero_le _, by show (y ⟨1, h⟩).val < 0 + 144; have := (y ⟨1, h⟩).isLt; rw [Nat.zero_add]; exact this⟩
    | ⟨2, h⟩ => exact ⟨Nat.zero_le _, by show (y ⟨2, h⟩).val < 0 + 4096; have := (y ⟨2, h⟩).isLt; rw [Nat.zero_add]; exact this⟩)]
  refine congrArg w (funext fun a => ?_)
  match a with
  | ⟨0, _⟩ => exact Fin.ext (Nat.sub_zero _)
  | ⟨1, _⟩ => exact Fin.ext (Nat.sub_zero _)
  | ⟨2, _⟩ => exact Fin.ext (Nat.sub_zero _)

/-- The result block with image `b` replaced. -/
theorem out_put (X : Vec F S32x32x4096 .f32) (b : ℕ) (hb : b < 32) (w : Vec F S1x32x4096 .f32) :
    put X (Rect.unit (s := S32x32x4096) ![b, 0, 0] S1x32x4096.size (inb_out b hb)) w
      = fun y => if (y 0).val = b then w (ix3 0 (y 1) (y 2)) else X y := by
  funext y
  obtain ⟨r', k', p, rfl⟩ : ∃ (r' : Fin 32) (k' : Fin 32) (p : Fin 4096), y = ix3 r' k' p := ⟨y 0, y 1, y 2, eq_ix3 y⟩
  rw [put_unit]
  show _ = if r'.val = b then w (ix3 0 k' p) else X (ix3 r' k' p)
  by_cases h : r'.val = b
  · have hall : ∀ a, (![b, 0, 0] : Fin 3 → ℕ) a ≤ ((ix3 r' k' p : S32x32x4096.Idx) a).val ∧ ((ix3 r' k' p : S32x32x4096.Idx) a).val < (![b, 0, 0] : Fin 3 → ℕ) a + S1x32x4096.size a := by
      intro a
      match a with
      | ⟨0, _⟩ => exact ⟨by show b ≤ r'.val; omega, by show r'.val < b + 1; omega⟩
      | ⟨1, _⟩ => exact ⟨Nat.zero_le _, by show k'.val < 0 + 32; omega⟩
      | ⟨2, _⟩ => exact ⟨Nat.zero_le _, by show p.val < 0 + 4096; omega⟩
    rw [dif_pos hall, if_pos h]
    refine congrArg w (funext fun a => ?_)
    match a with
    | ⟨0, _⟩ => exact Fin.ext (by show r'.val - b = 0; omega)
    | ⟨1, _⟩ => exact Fin.ext (Nat.sub_zero _)
    | ⟨2, _⟩ => exact Fin.ext (Nat.sub_zero _)
  · rw [dif_neg fun hall => h (by
      have h1 : b ≤ r'.val := (hall 0).1
      have h2 : r'.val < b + 1 := (hall 0).2
      omega), if_neg h]

/-! ## The pieces run -/

section Run

variable {c : Dev nD} {arg1 : Memref sig .tc .vmem S32x4608 .bf16} {arg2 : Memref sig .tc .vmem S32x144 .bf16}
  {arg3 : Memref sig .tc .vmem S1x4352 .bf16} {arg4 : Memref sig .tc .vmem S10x4096 .bf16}
  {arg5 : Memref sig .tc .vmem S32x32x4096 .f32}
  {arg6 : Memref sig .tc .vmem S9x139264 .bf16} {harg6 : arg6.IsWhole}
  {arg7 : Memref sig .tc .vmem S4x144x4096 .bf16} {harg7 : arg7.IsWhole}
  {x1 : Vec F S32x4608 .bf16} {x2 : Vec F S32x144 .bf16} {x3 : Vec F S1x4352 .bf16} {x4 : Vec F S10x4096 .bf16}

/-- `ldRow` runs, changes nothing and yields `rowAt`. -/
theorem ldRow_runs (st : St F) (b s : ℕ) (hb : b < 32) (hs : s ≤ 256) :
    Runs c arg1 arg2 arg3 arg4 arg5 arg6 arg7 x1 x2 x3 x4 (ldRow arg1 arg3 b s hb hs) st st (rowAt x1 x3 b s hb hs) := by
  unfold ldRow
  exact (Runs.load arg1 x1 st (foc1 st) _ _).bind ((Runs.load arg3 x3 st (foc3 st) _ _).bind (Runs.pure _ _ _ _ _ _ _ _ _ _ _ _ _ _))

/-- `fill` runs and leaves image `b`'s columns of the shifted rows as `rhsOf`. -/
theorem fill_runs (st : St F) (b : ℕ) (hb : b < 32) :
    Runs c arg1 arg2 arg3 arg4 arg5 arg6 arg7 x1 x2 x3 x4 (fill arg1 arg3 arg6 harg6 b hb) st
      { st with rhs := fun y => if (y 1).val / 4352 = b then rhsOf x1 x3 y else st.rhs y } ⟨⟩ := by
  have e := fill_put x1 x3 st.rhs b hb (fun u : Fin 9 => rowAt x1 x3 b (sh u.val) hb (by have := sh_le u.isLt; omega))
    (fun u l => rowAt_apply x1 x3 b (sh u.val) hb _ l)
  rw [← e]
  unfold fill
  exact (ldRow_runs st b 0 hb _).bind ((ldRow_runs st b 1 hb _).bind ((ldRow_runs st b 2 hb _).bind
    ((ldRow_runs st b 64 hb _).bind ((ldRow_runs st b 65 hb _).bind ((ldRow_runs st b 66 hb _).bind
    ((ldRow_runs st b 128 hb _).bind ((ldRow_runs st b 129 hb _).bind ((ldRow_runs st b 130 hb _).bind
    ((Runs.load arg6 st.rhs st (foc6 st st.rhs) _ _).bind
      (Runs.store arg6 st.rhs _ _ st _ (foc6 st _) _ _))))))))))

/-- A read of a band, its update, and the store back. -/
theorem sub_runs (st : St F) (r : Rect S4x144x4096) (w : (r.shape.Idx → Elt F .bf16) → r.shape.Idx → Elt F .bf16)
    (hl : arg7.view.LoadsAt r.toLoadRect) (hs : (arg7.access r).Stores Finset.univ) :
    Runs c arg1 arg2 arg3 arg4 arg5 arg6 arg7 x1 x2 x3 x4 (storeSubelements arg7 r w hl hs) st
      { st with xk := put st.xk r (w fun x => st.xk (r.idx x)) } ⟨⟩ :=
  (Runs.load arg7 st.xk st (foc7 st st.xk) r hl).bind (k := fun old => Prog.lift (.store arg7 r (w old) Finset.univ hs (.inl rfl)))
    (Runs.store arg7 st.xk r _ st _ (foc7 st _) hs (.inl rfl))

/-- `tap` runs and leaves the slabs as `tapped`. -/
theorem tap_runs (st : St F) (b r s k : ℕ) (hb : b < 32) (hr : r < 4) (hs : s ≤ 256) (hk : k + 10 ≤ 144) (hk2 : 2 ∣ k) :
    Runs c arg1 arg2 arg3 arg4 arg5 arg6 arg7 x1 x2 x3 x4 (tap arg6 arg7 harg7 b r s k hb hr hs hk hk2) st
      { st with xk := tapped st.rhs b r s k hb hs st.xk } ⟨⟩ := by
  rw [← tap_put st.rhs st.xk b r s k hb hr hs hk]
  unfold tap
  exact (Runs.load arg6 st.rhs st (foc6 st st.rhs) _ _).bind ((Runs.load arg7 st.xk st (foc7 st st.xk) _ _).bind (sub_runs st _ _ _ _))

/-- `putOdd` runs and leaves row `k + 1` of slab `r` as row `t` of the indicators. -/
theorem putOdd_runs (st : St F) (r t k : ℕ) (hr : r < 4) (ht : t < 10) (hk : k + 2 ≤ 144) (hk2 : 2 ∣ k) :
    Runs c arg1 arg2 arg3 arg4 arg5 arg6 arg7 x1 x2 x3 x4 (putOdd arg4 arg7 harg7 r t k hr ht hk hk2) st
      { st with xk := withRow x4 r t (k + 1) ht st.xk } ⟨⟩ := by
  rw [← pair_put x4 st.xk r t k 1 hr ht hk (by decide) _ (fun j p => (over1odd
    (fun x => st.xk ((Rect.unit (s := S4x144x4096) ![r, k, 0] S1x2x4096.size (inb_xk r k 2 hr hk)).idx x))
    (fun x => x4 ((Rect.unit (s := S10x4096) ![t, 0] S1x4096.size (inb_ind t ht)).idx x)) j p).trans (by
      congr 1
      · refine congrArg x4 (funext fun a => ?_)
        match a with
        | ⟨0, _⟩ => exact Fin.ext (show t + 1 * 0 = t by omega)
        | ⟨1, _⟩ => exact Fin.ext (show 0 + 1 * p.val = p.val by omega)
      · refine congrArg st.xk (funext fun a => ?_)
        match a with
        | ⟨0, _⟩ => exact Fin.ext (show r + 1 * 0 = r by omega)
        | ⟨1, _⟩ => exact Fin.ext (show k + 1 * j.val = k + j.val by omega)
        | ⟨2, _⟩ => exact Fin.ext (show 0 + 1 * p.val = p.val by omega)))]
  unfold putOdd
  exact (Runs.load arg4 x4 st (foc4 st) _ _).bind ((Runs.load arg7 st.xk st (foc7 st st.xk) _ _).bind (sub_runs st _ _ _ _))

/-- `putEven` runs and leaves row `k` of slab `r` as row `t` of the indicators. -/
theorem putEven_runs (st : St F) (r t k : ℕ) (hr : r < 4) (ht : t < 10) (hk : k + 2 ≤ 144) (hk2 : 2 ∣ k) :
    Runs c arg1 arg2 arg3 arg4 arg5 arg6 arg7 x1 x2 x3 x4 (putEven arg4 arg7 harg7 r t k hr ht hk hk2) st
      { st with xk := withRow x4 r t (k + 0) ht st.xk } ⟨⟩ := by
  rw [← pair_put x4 st.xk r t k 0 hr ht hk (by decide) _ (fun j p => (over1even
    (fun x => st.xk ((Rect.unit (s := S4x144x4096) ![r, k, 0] S1x2x4096.size (inb_xk r k 2 hr hk)).idx x))
    (fun x => x4 ((Rect.unit (s := S10x4096) ![t, 0] S1x4096.size (inb_ind t ht)).idx x)) j p).trans (by
      congr 1
      · refine congrArg x4 (funext fun a => ?_)
        match a with
        | ⟨0, _⟩ => exact Fin.ext (show t + 1 * 0 = t by omega)
        | ⟨1, _⟩ => exact Fin.ext (show 0 + 1 * p.val = p.val by omega)
      · refine congrArg st.xk (funext fun a => ?_)
        match a with
        | ⟨0, _⟩ => exact Fin.ext (show r + 1 * 0 = r by omega)
        | ⟨1, _⟩ => exact Fin.ext (show k + 1 * j.val = k + j.val by omega)
        | ⟨2, _⟩ => exact Fin.ext (show 0 + 1 * p.val = p.val by omega)))]
  unfold putEven
  exact (Runs.load arg4 x4 st (foc4 st) _ _).bind ((Runs.load arg7 st.xk st (foc7 st st.xk) _ _).bind (sub_runs st _ _ _ _))

end Run

end Cert.KernelIdeal.Net

end
-- ==== Proof.KiPoint.lean ====
/- A whole body point, run: from any state whose slabs hold their constant rows (at the first point, from any
   state), the result block ends at `outOf` of the input blocks, and the slabs hold their constant rows. -/
module

public import proofs.«01_k».proof.Proof.KiPieces

@[expose] public section

set_option maxRecDepth 16384

noncomputable section

namespace Cert.KernelIdeal.Net

open Cert.KernelIdeal
open Idealize.ShloMosaic Idealize.ShloMosaic.TcCoe Idealize.ShloMosaic.Tactic
open Idealize.SL Idealize.SL.RA Idealize.SL.BI
open Idealize.SL.Sem

variable {F : FTy → Type} [FloatOps F]

/-! ## The nine taps together, the constant rows together -/

/-- The first `n` taps of image `b` into slab `r`. -/
def taps (R : Vec F S9x139264 .bf16) (b r : ℕ) (hb : b < 32) (X : Vec F S4x144x4096 .bf16) : (n : ℕ) → n ≤ 9 → Vec F S4x144x4096 .bf16
  | 0, _ => X
  | n + 1, h => tapped R b r (sh n) (16 * n) hb (by have := sh_le (t := n) (by omega); omega) (taps R b r hb X n (by omega))

/-- The first `n` taps at coordinates: the rows below nine of each tap come from the shifted rows. -/
theorem taps_apply (R : Vec F S9x139264 .bf16) (b r : ℕ) (hb : b < 32) (X : Vec F S4x144x4096 .bf16) (n : ℕ) (hn : n ≤ 9)
    (r' : Fin 4) (k' : Fin 144) (p : Fin 4096) :
    taps R b r hb X n hn (ix3 r' k' p)
      = if h : r'.val = r ∧ k'.val < 16 * n ∧ k'.val % 16 < 9 then
          R (ix2 ⟨k'.val % 16, h.2.2⟩ ⟨b * 4352 + sh (k'.val / 16) + p.val, by have := sh_le (t := k'.val / 16) (by omega); omega⟩)
        else X (ix3 r' k' p) := by
  induction n with
  | zero => rw [dif_neg fun h => by omega]; rfl
  | succ n ih =>
    show tapped R b r (sh n) (16 * n) hb _ (taps R b r hb X n (by omega)) (ix3 r' k' p) = _
    rw [tapped_apply]
    by_cases h : r'.val = r ∧ 16 * n ≤ k'.val ∧ k'.val < 16 * n + 9
    · have h1 : k'.val % 16 = k'.val - 16 * n := by omega
      have h2 : k'.val / 16 = n := by omega
      rw [dif_pos h, dif_pos ⟨h.1, by omega, by omega⟩]
      simp only [h1, h2]
    · rw [dif_neg h, ih]
      by_cases h' : r'.val = r ∧ k'.val < 16 * n ∧ k'.val % 16 < 9
      · rw [dif_pos h', dif_pos ⟨h'.1, by omega, h'.2.2⟩]
      · rw [dif_neg h', dif_neg fun h'' => h' ⟨h''.1, by omega, h''.2.2⟩]

/-- The indicator rows of the first `n` taps in slab `r`. -/
def marks (x4 : Vec F S10x4096 .bf16) (r : ℕ) (X : Vec F S4x144x4096 .bf16) : (n : ℕ) → n ≤ 9 → Vec F S4x144x4096 .bf16
  | 0, _ => X
  | n + 1, h => withRow x4 r n (16 * n + 8 + 1) (by omega) (marks x4 r X n (by omega))

/-- The first `n` indicator rows at coordinates: row nine of each tap is an indicator. -/
theorem marks_apply (x4 : Vec F S10x4096 .bf16) (r : ℕ) (X : Vec F S4x144x4096 .bf16) (n : ℕ) (hn : n ≤ 9)
    (r' : Fin 4) (k' : Fin 144) (p : Fin 4096) :
    marks x4 r X n hn (ix3 r' k' p)
      = if r'.val = r ∧ k'.val < 16 * n ∧ k'.val % 16 = 9 then x4 (ix2 ⟨k'.val / 16, by omega⟩ p) else X (ix3 r' k' p) := by
  induction n with
  | zero => rw [if_neg fun h => by omega]; rfl
  | succ n ih =>
    show withRow x4 r n (16 * n + 8 + 1) _ (marks x4 r X n (by omega)) (ix3 r' k' p) = _
    rw [withRow_apply]
    by_cases h : r'.val = r ∧ k'.val = 16 * n + 8 + 1
    · have h2 : k'.val / 16 = n := by omega
      rw [if_pos h, if_pos ⟨h.1, by omega, by omega⟩]
      simp only [h2]
    · rw [if_neg h, ih]
      by_cases h' : r'.val = r ∧ k'.val < 16 * n ∧ k'.val % 16 = 9
      · rw [if_pos h', if_pos ⟨h'.1, by omega, h'.2.2⟩]
      · rw [if_neg h', if_neg fun h'' => h' ⟨h''.1, by omega, h''.2.2⟩]

/-- The constant rows of a slab: row `16 t + 9` the indicator of tap `t`, row 10 the indicator block's last row, zero in
    the other rows that hold no shifted image row. -/
def constRow (x4 : Vec F S10x4096 .bf16) (k : Fin 144) (p : Fin 4096) : F .bf16 :=
  if k.val % 16 = 9 then x4 (ix2 ⟨k.val / 16, by omega⟩ p) else if k.val = 10 then x4 (ix2 9 p) else Scalar.ofBits .bf16 0x0000#16

/-- The constant rows stand in every slab. -/
def Const (x4 : Vec F S10x4096 .bf16) (X : Vec F S4x144x4096 .bf16) : Prop :=
  ∀ (r : Fin 4) (k : Fin 144) (p : Fin 4096), ¬ (k.val % 16 < 9) → X (ix3 r k p) = constRow x4 k p

/-- The slab of image `b`. -/
def slabOf (x1 : Vec F S32x4608 .bf16) (x3 : Vec F S1x4352 .bf16) (x4 : Vec F S10x4096 .bf16) (b : Fin 32) : Vec F S1x144x4096 .bf16 := fun y =>
  if h : (y 1).val % 16 < 9 then
    rhsOf x1 x3 (ix2 ⟨(y 1).val % 16, h⟩ ⟨b.val * 4352 + sh ((y 1).val / 16) + (y 2).val, by
      have h1 : (y 1).val < 144 := (y 1).isLt
      have h2 : (y 2).val < 4096 := (y 2).isLt
      have := sh_le (t := (y 1).val / 16) (by omega); omega⟩)
  else constRow x4 (y 1) (y 2)

/-- The result block of a point: image `b`'s plane is the product of the weights with its slab. -/
def outOf (x1 : Vec F S32x4608 .bf16) (x2 : Vec F S32x144 .bf16) (x3 : Vec F S1x4352 .bf16) (x4 : Vec F S10x4096 .bf16) : Vec F S32x32x4096 .f32 := fun y =>
  prod x2 (slabOf x1 x3 x4 (y 0)) (ix3 0 (y 1) (y 2))

/-- Slab `r` with its constant rows put in. -/
def slabbed (x4 : Vec F S10x4096 .bf16) (r : ℕ) (X : Vec F S4x144x4096 .bf16) : Vec F S4x144x4096 .bf16 :=
  withRow x4 r 9 (10 + 0) (by decide) (marks x4 r X 9 le_rfl)

section Run

variable {c : Dev nD} {arg1 : Memref sig .tc .vmem S32x4608 .bf16} {arg2 : Memref sig .tc .vmem S32x144 .bf16}
  {arg3 : Memref sig .tc .vmem S1x4352 .bf16} {arg4 : Memref sig .tc .vmem S10x4096 .bf16}
  {arg5 : Memref sig .tc .vmem S32x32x4096 .f32}
  {arg6 : Memref sig .tc .vmem S9x139264 .bf16} {harg6 : arg6.IsWhole}
  {arg7 : Memref sig .tc .vmem S4x144x4096 .bf16} {harg7 : arg7.IsWhole}
  {x1 : Vec F S32x4608 .bf16} {x2 : Vec F S32x144 .bf16} {x3 : Vec F S1x4352 .bf16} {x4 : Vec F S10x4096 .bf16}

/-- The fills, then `k`: image by image the row scratch takes the masked rows. -/
theorem fills_runs (k : Prog (E F) PUnit) (st' : St F) (n b : ℕ) (h : b + n ≤ 32) (st : St F)
    (hk : Runs c arg1 arg2 arg3 arg4 arg5 arg6 arg7 x1 x2 x3 x4 k
      { st with rhs := fun y => if b ≤ (y 1).val / 4352 ∧ (y 1).val / 4352 < b + n then rhsOf x1 x3 y else st.rhs y } st' ⟨⟩) :
    Runs c arg1 arg2 arg3 arg4 arg5 arg6 arg7 x1 x2 x3 x4 (fills arg1 arg3 arg6 harg6 k n b h) st st' ⟨⟩ := by
  induction n generalizing b st with
  | zero =>
    have e : ({ st with rhs := fun y => if b ≤ (y 1).val / 4352 ∧ (y 1).val / 4352 < b + 0 then rhsOf x1 x3 y else st.rhs y } : St F) = st := by
      have : (fun y : S9x139264.Idx => if b ≤ (y 1).val / 4352 ∧ (y 1).val / 4352 < b + 0 then rhsOf x1 x3 y else st.rhs y) = st.rhs :=
        funext fun y => if_neg (by omega)
      rw [this]
    rw [e] at hk
    exact hk
  | succ n ih =>
    refine (fill_runs st b (by omega)).bind (ih (b + 1) (by omega) _ ?_)
    convert hk using 2
    funext y
    by_cases h1 : (y 1).val / 4352 = b
    · simp [h1]
    · by_cases h2 : b + 1 ≤ (y 1).val / 4352 ∧ (y 1).val / 4352 < b + 1 + n
      · simp only [h1, if_false]
        rw [if_pos h2, if_pos (by omega)]
      · simp only [h1, if_false]
        rw [if_neg h2, if_neg (by omega)]

/-- One image, from full rows and standing constants. -/
theorem image_runs (st : St F) (b r : ℕ) (hb : b < 32) (hr : r < 4) (hR : st.rhs = rhsOf x1 x3) (hC : Const x4 st.xk) :
    ∃ X, Const x4 X ∧ Runs c arg1 arg2 arg3 arg4 arg5 arg6 arg7 x1 x2 x3 x4 (image arg2 arg5 arg6 arg7 harg7 b r hb hr) st
      { st with xk := X, o := fun y => if (y 0).val = b then outOf x1 x2 x3 x4 y else st.o y } ⟨⟩ := by
  refine ⟨taps st.rhs b r hb st.xk 9 le_rfl, ?_, ?_⟩
  · intro r' k p hk
    rw [taps_apply, dif_neg fun h => hk h.2.2]
    exact hC r' k p hk
  · have e : (fun y : S32x32x4096.Idx => if (y 0).val = b then outOf x1 x2 x3 x4 y else st.o y)
        = put st.o (Rect.unit (s := S32x32x4096) ![b, 0, 0] S1x32x4096.size (inb_out b hb))
          (prod (fun x => x2 ((Rect.unit (s := S32x144) ![0, 0] S32x144.size Shapes1.Facts₀.inb_S32x144_S32x144_0_0).idx x))
            (fun x => taps st.rhs b r hb st.xk 9 le_rfl ((Rect.unit (s := S4x144x4096) ![r, 0, 0] S1x144x4096.size (inb_xk r 0 144 hr (by decide))).idx x))) := by
      rw [out_put st.o b hb]
      funext y
      by_cases hy : (y 0).val = b
      · rw [if_pos hy, if_pos hy]
        unfold outOf
        have e2 : (fun x => x2 ((Rect.unit (s := S32x144) ![0, 0] S32x144.size Shapes1.Facts₀.inb_S32x144_S32x144_0_0).idx x)) = x2 := by
          funext x
          refine congrArg x2 (funext fun a => ?_)
          match a with
          | ⟨0, _⟩ => exact Fin.ext ((Nat.zero_add _).trans (Nat.one_mul _))
          | ⟨1, _⟩ => exact Fin.ext ((Nat.zero_add _).trans (Nat.one_mul _))
        have e3 : (fun x => taps st.rhs b r hb st.xk 9 le_rfl ((Rect.unit (s := S4x144x4096) ![r, 0, 0] S1x144x4096.size (inb_xk r 0 144 hr (by decide))).idx x))
            = slabOf x1 x3 x4 (y 0) := by
          funext x
          obtain ⟨q, k, p, rfl⟩ : ∃ (q : Fin 1) (k : Fin 144) (p : Fin 4096), x = ix3 q k p := ⟨x 0, x 1, x 2, eq_ix3 x⟩
          have ex : (Rect.unit (s := S4x144x4096) ![r, 0, 0] S1x144x4096.size (inb_xk r 0 144 hr (by decide))).idx (ix3 q k p)
              = ix3 (⟨r, hr⟩ : Fin 4) k p := by
            funext a
            match a with
            | ⟨0, _⟩ => exact Fin.ext (by show r + 1 * q.val = r; omega)
            | ⟨1, _⟩ => exact Fin.ext ((Nat.zero_add _).trans (Nat.one_mul _))
            | ⟨2, _⟩ => exact Fin.ext ((Nat.zero_add _).trans (Nat.one_mul _))
          rw [ex, taps_apply]
          show _ = if h : k.val % 16 < 9 then _ else constRow x4 k p
          by_cases hk : k.val % 16 < 9
          · rw [dif_pos ⟨rfl, k.isLt, hk⟩, dif_pos hk, hR]
            have hy' : (y 0).val = b := hy
            subst hy'
            rfl
          · rw [dif_neg fun h => hk h.2.2, dif_neg hk]
            exact hC _ k p hk
        exact (congrFun (congrArg₂ prod e2 e3) _).symm
      · rw [if_neg hy, if_neg hy]
    rw [e]
    unfold image
    exact (tap_runs st b r 0 0 hb hr _ _ _).bind ((tap_runs _ b r 1 16 hb hr _ _ _).bind ((tap_runs _ b r 2 32 hb hr _ _ _).bind
      ((tap_runs _ b r 64 48 hb hr _ _ _).bind ((tap_runs _ b r 65 64 hb hr _ _ _).bind ((tap_runs _ b r 66 80 hb hr _ _ _).bind
      ((tap_runs _ b r 128 96 hb hr _ _ _).bind ((tap_runs _ b r 129 112 hb hr _ _ _).bind ((tap_runs _ b r 130 128 hb hr _ _ _).bind
      ((Runs.load arg2 x2 _ (foc2 _) _ _).bind ((Runs.load arg7 _ _ (foc7 { st with xk := taps st.rhs b r hb st.xk 9 le_rfl } _) _ _).bind
      ((Runs.load arg5 st.o _ (foc5 { st with xk := taps st.rhs b r hb st.xk 9 le_rfl } st.o) _ _).bind
        (Runs.store arg5 st.o _ _ { st with xk := taps st.rhs b r hb st.xk 9 le_rfl } _ (foc5 _ _) _ _))))))))))))

/-- The images: plane by plane the result block takes `outOf`. -/
theorem images_runs (n b : ℕ) (h : b + n ≤ 32) (st : St F) (hR : st.rhs = rhsOf x1 x3) (hC : Const x4 st.xk) :
    ∃ X, Const x4 X ∧ Runs c arg1 arg2 arg3 arg4 arg5 arg6 arg7 x1 x2 x3 x4 (images arg2 arg5 arg6 arg7 harg7 n b h) st
      { st with xk := X, o := fun y => if b ≤ (y 0).val ∧ (y 0).val < b + n then outOf x1 x2 x3 x4 y else st.o y } ⟨⟩ := by
  induction n generalizing b st with
  | zero =>
    refine ⟨st.xk, hC, ?_⟩
    have e : (fun y : S32x32x4096.Idx => if b ≤ (y 0).val ∧ (y 0).val < b + 0 then outOf x1 x2 x3 x4 y else st.o y) = st.o :=
      funext fun y => if_neg (by omega)
    rw [e]
    exact Runs.pure _ _ _ _ _ _ _ _ _ _ _ _ _ _
  | succ n ih =>
    obtain ⟨X, hX, h1⟩ := image_runs (arg1 := arg1) (arg2 := arg2) (arg3 := arg3) (arg4 := arg4) (arg5 := arg5) (arg6 := arg6) (harg7 := harg7) (c := c)
      (x2 := x2) st b (b % 4) (by omega) (Nat.mod_lt _ (by decide)) hR hC
    obtain ⟨X', hX', h2⟩ := ih (b + 1) (by omega) { st with xk := X, o := fun y => if (y 0).val = b then outOf x1 x2 x3 x4 y else st.o y } hR hX
    refine ⟨X', hX', ?_⟩
    have e : (fun y : S32x32x4096.Idx => if b ≤ (y 0).val ∧ (y 0).val < b + (n + 1) then outOf x1 x2 x3 x4 y else st.o y)
        = fun y => if b + 1 ≤ (y 0).val ∧ (y 0).val < b + 1 + n then outOf x1 x2 x3 x4 y else if (y 0).val = b then outOf x1 x2 x3 x4 y else st.o y := by
      funext y
      by_cases h1 : (y 0).val = b
      · simp [h1]
      · by_cases h2 : b + 1 ≤ (y 0).val ∧ (y 0).val < b + 1 + n
        · rw [if_pos h2, if_pos (by omega)]
        · rw [if_neg h2, if_neg (by omega), if_neg h1]
    rw [e]
    exact h1.bind h2

/-- What follows the set-up, from standing constants. -/
theorem rest_runs (st : St F) (hC : Const x4 st.xk) :
    ∃ st' : St F, st'.o = outOf x1 x2 x3 x4 ∧ Const x4 st'.xk
      ∧ Runs c arg1 arg2 arg3 arg4 arg5 arg6 arg7 x1 x2 x3 x4 (rest arg1 arg2 arg3 arg5 arg6 harg6 arg7 harg7) st st' ⟨⟩ := by
  have e : (fun y : S9x139264.Idx => if 0 ≤ (y 1).val / 4352 ∧ (y 1).val / 4352 < 0 + 32 then rhsOf x1 x3 y else st.rhs y) = rhsOf x1 x3 :=
    funext fun y => if_pos (by have : (y 1).val < 139264 := (y 1).isLt; omega)
  obtain ⟨X, hX, h⟩ := images_runs (arg1 := arg1) (arg2 := arg2) (arg3 := arg3) (arg4 := arg4) (arg5 := arg5) (arg6 := arg6) (harg7 := harg7) (c := c)
      (x2 := x2) 32 0 (by decide) { st with rhs := fun y => if 0 ≤ (y 1).val / 4352 ∧ (y 1).val / 4352 < 0 + 32 then rhsOf x1 x3 y else st.rhs y } e hC
  exact ⟨_, funext fun y => if_pos ⟨Nat.zero_le _, (by have : (y 0).val < 32 := (y 0).isLt; omega)⟩, hX, fills_runs _ _ 32 0 (by decide) st h⟩

/-- The constant rows of one slab. -/
theorem slabInit_runs (st : St F) (r : ℕ) (hr : r < 4) :
    Runs c arg1 arg2 arg3 arg4 arg5 arg6 arg7 x1 x2 x3 x4 (slabInit arg4 arg7 harg7 r hr) st
      { st with xk := slabbed x4 r st.xk } ⟨⟩ := by
  unfold slabInit
  exact (putOdd_runs st r 0 8 hr _ _ _).bind ((putOdd_runs _ r 1 24 hr _ _ _).bind ((putOdd_runs _ r 2 40 hr _ _ _).bind
    ((putOdd_runs _ r 3 56 hr _ _ _).bind ((putOdd_runs _ r 4 72 hr _ _ _).bind ((putOdd_runs _ r 5 88 hr _ _ _).bind
    ((putOdd_runs _ r 6 104 hr _ _ _).bind ((putOdd_runs _ r 7 120 hr _ _ _).bind ((putOdd_runs _ r 8 136 hr _ _ _).bind
    (putEven_runs _ r 9 10 hr _ _ _)))))))))

/-- A slab's constant rows at coordinates. -/
theorem slabInit_apply (X : Vec F S4x144x4096 .bf16) (r : ℕ) (r' : Fin 4) (k : Fin 144) (p : Fin 4096) :
    slabbed x4 r X (ix3 r' k p)
      = if r'.val = r ∧ (k.val % 16 = 9 ∨ k.val = 10) then constRow x4 k p else X (ix3 r' k p) := by
  unfold slabbed
  rw [withRow_apply, marks_apply]
  unfold constRow
  by_cases h1 : r'.val = r
  · by_cases h2 : k.val = 10
    · rw [if_pos ⟨h1, h2⟩, if_pos ⟨h1, .inr h2⟩, if_neg (by omega), if_pos h2]
      rfl
    · rw [if_neg fun h => h2 h.2]
      by_cases h3 : k.val % 16 = 9
      · rw [if_pos ⟨h1, by omega, h3⟩, if_pos ⟨h1, .inl h3⟩, if_pos h3]
      · rw [if_neg fun h => h3 h.2.2, if_neg fun h => h.2.elim h3 h2]
  · rw [if_neg fun h => h1 h.1, if_neg fun h => h1 h.1, if_neg fun h => h1 h.1]

/-- The store of zeros runs and leaves every slab zero. -/
theorem zero_runs (st : St F) (hx : (arg7.access (Rect.unit (s := S4x144x4096) ![0, 0, 0] S4x144x4096.size Shapes1.Facts₀.inb_S4x144x4096_S4x144x4096_0_0_0)).Stores Finset.univ)
    (hm : (Finset.univ : Finset (Rect.unit (s := S4x144x4096) ![0, 0, 0] S4x144x4096.size Shapes1.Facts₀.inb_S4x144x4096_S4x144x4096_0_0_0).shape.Idx) = Finset.univ
      ∨ ∀ a, (Rect.unit (s := S4x144x4096) ![0, 0, 0] S4x144x4096.size Shapes1.Facts₀.inb_S4x144x4096_S4x144x4096_0_0_0).stride a = 1) :
    Runs c arg1 arg2 arg3 arg4 arg5 arg6 arg7 x1 x2 x3 x4
      (Prog.lift (.store arg7 (Rect.unit (s := S4x144x4096) ![0, 0, 0] S4x144x4096.size Shapes1.Facts₀.inb_S4x144x4096_S4x144x4096_0_0_0) (zeros : FVec F S4x144x4096 .bf16) Finset.univ hx hm))
      st { st with xk := zeros } ⟨⟩ := by
  have h := Runs.store arg7 st.xk _ (zeros : FVec F S4x144x4096 .bf16) st _ (foc7 (c := c) (arg1 := arg1) (arg2 := arg2) (arg3 := arg3) (arg4 := arg4) (arg5 := arg5) (arg6 := arg6)
    (x1 := x1) (x2 := x2) (x3 := x3) (x4 := x4) st _) hx hm
  have e : (⟨st.o, st.rhs, put st.xk (Rect.unit (s := S4x144x4096) ![0, 0, 0] S4x144x4096.size Shapes1.Facts₀.inb_S4x144x4096_S4x144x4096_0_0_0) zeros⟩ : St F)
      = { st with xk := zeros } := congrArg (St.mk st.o st.rhs) (whole_put st.xk zeros)
  exact e ▸ h

/-- The set-up of the first point leaves the constant rows standing. -/
theorem setup_runs (st : St F) :
    ∃ X, Const x4 X ∧ Runs c arg1 arg2 arg3 arg4 arg5 arg6 arg7 x1 x2 x3 x4 (setup arg4 arg7 harg7) st { st with xk := X } ⟨⟩ := by
  refine ⟨slabbed x4 3 (slabbed x4 2 (slabbed x4 1 (slabbed x4 0 zeros))), ?_, ?_⟩
  rotate_left
  · unfold setup
    exact (Runs.load arg7 st.xk st (foc7 st st.xk) _ _).bind ((zero_runs st _ _).bind
      ((slabInit_runs _ 0 _).bind ((slabInit_runs _ 1 _).bind ((slabInit_runs _ 2 _).bind (slabInit_runs _ 3 _)))))
  · intro r k p hk
    have hz : (zeros : FVec F S4x144x4096 .bf16) (ix3 r k p) = Scalar.ofBits .bf16 0x0000#16 := by
      unfold zeros
      pointwise
    rw [slabInit_apply, slabInit_apply, slabInit_apply, slabInit_apply, hz]
    by_cases h : k.val % 16 = 9 ∨ k.val = 10
    · have : r.val = 0 ∨ r.val = 1 ∨ r.val = 2 ∨ r.val = 3 := by omega
      rcases this with h0 | h0 | h0 | h0 <;> simp [h0, h]
    · rw [if_neg fun h' => h h'.2, if_neg fun h' => h h'.2, if_neg fun h' => h h'.2, if_neg fun h' => h h'.2]
      unfold constRow
      rw [if_neg fun h' => h (.inl h'), if_neg fun h' => h (.inr h')]

end Run

/-- The branch word at a grid point is set exactly at the first. -/
theorem firstWord_iff (i : grid0.Coords) : firstWord i = 1#1 ↔ (i 0).val = 0 := by
  have h : ∀ n : Fin 8, (Scalar.cmpi .ne (Scalar.extui (Scalar.cmpi .eq (BitVec.ofNat 32 n.val) 0#32) : BitVec 32) 0#32 = 1#1) ↔ n.val = 0 := by
    decide +kernel
  exact h (i 0)

section Point

variable (c : Dev nD) (i : grid0.Coords) (arg1 : Memref sig .tc .vmem S32x4608 .bf16) (harg1 : arg1.IsWhole) (arg2 : Memref sig .tc .vmem S32x144 .bf16) (harg2 : arg2.IsWhole) (arg3 : Memref sig .tc .vmem S1x4352 .bf16) (harg3 : arg3.IsWhole) (arg4 : Memref sig .tc .vmem S10x4096 .bf16) (harg4 : arg4.IsWhole) (arg5 : Memref sig .tc .vmem S32x32x4096 .f32) (harg5 : arg5.IsWhole) (arg6 : Memref sig .tc .vmem S9x139264 .bf16) (harg6 : arg6.IsWhole) (arg7 : Memref sig .tc .vmem S4x144x4096 .bf16) (harg7 : arg7.IsWhole)
  (x1 : Vec F S32x4608 .bf16) (x2 : Vec F S32x144 .bf16) (x3 : Vec F S1x4352 .bf16) (x4 : Vec F S10x4096 .bf16)

/-- A body point, run. -/
theorem point_runs (st : St F) (hC : (i 0).val ≠ 0 → Const x4 st.xk) :
    ∃ st' : St F, st'.o = outOf x1 x2 x3 x4 ∧ Const x4 st'.xk
      ∧ Runs c arg1 arg2 arg3 arg4 arg5 arg6 arg7 x1 x2 x3 x4
          (cc0__net_kernel (F := F) i arg1 harg1 arg2 harg2 arg3 harg3 arg4 harg4 arg5 harg5 arg6 harg6 arg7 harg7) st st' ⟨⟩ := by
  rw [body_eq]
  by_cases h : firstWord i = 1#1
  · rw [dif_pos h]
    obtain ⟨X, hX, h1⟩ := setup_runs (c := c) (arg1 := arg1) (arg2 := arg2) (arg3 := arg3) (arg4 := arg4) (arg5 := arg5) (arg6 := arg6) (harg7 := harg7)
      (x1 := x1) (x2 := x2) (x3 := x3) (x4 := x4) st
    obtain ⟨st', ho, hC', h2⟩ := rest_runs (c := c) (arg1 := arg1) (arg2 := arg2) (arg3 := arg3) (arg4 := arg4) (arg5 := arg5) (harg6 := harg6) (harg7 := harg7)
      (x1 := x1) (x2 := x2) (x3 := x3) (x4 := x4) { st with xk := X } hX
    exact ⟨st', ho, hC', h1.bind h2⟩
  · rw [dif_neg h]
    obtain ⟨st', ho, hC', h2⟩ := rest_runs (c := c) (arg1 := arg1) (arg2 := arg2) (arg3 := arg3) (arg4 := arg4) (arg5 := arg5) (harg6 := harg6) (harg7 := harg7)
      (x1 := x1) (x2 := x2) (x3 := x3) (x4 := x4) st (hC fun h' => h ((firstWord_iff i).mpr h'))
    exact ⟨st', ho, hC', (Runs.pure _ _ _ _ _ _ _ _ _ _ _ _ _ _).bind h2⟩

end Point

end Cert.KernelIdeal.Net

end
-- ==== Proof.KiFrame.lean ====
/- The kernel's region: what every window's buffer holds around each grid point, that the body keeps to it, and
   the run of @main that follows. -/
module

public import proofs.«01_k».proof.Proof.KiHost
public import proofs.«01_k».proof.Proof.KiPoint

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The images' block at point `t`. -/
abbrev xin (c : Dev nD) (t : Fin cfg0.N) : Vec F S32x4608 .bf16 := block m c 0 t
/-- The weights' block at point `t`. -/
abbrev wct (c : Dev nD) (t : Fin cfg0.N) : Vec F S32x144 .bf16 := block m c 1 t
/-- The mask's block at point `t`. -/
abbrev mask (c : Dev nD) (t : Fin cfg0.N) : Vec F S1x4352 .bf16 := block m c 2 t
/-- The indicators' block at point `t`. -/
abbrev ind (c : Dev nD) (t : Fin cfg0.N) : Vec F S10x4096 .bf16 := block m c 3 t

/-- The indicators' block is the same at every point. -/
theorem ind_same (c : Dev nD) (t t' : Fin cfg0.N) : ind m c t = ind m c t' := rfl

/-- What the body leaves in the result's block at point `t`. -/
abbrev outAt (c : Dev nD) (t : Fin cfg0.N) : Vec F S32x32x4096 .f32 := outOf (xin m c t) (wct m c t) (mask m c t) (ind m c t)

/-- What is held between the points beside the windows: the two scratch buffers, the slabs' constant rows in place
    once a point has run, and the generator's register. -/
def held (c : Dev nD) (t : Fin (cfg0.N + 1)) : sProp 𝕄 :=
  iprop((∃ f, owns (c : Thread nD τ) (Memref.whole cc0_scratch0) fullShare f)
    ∗ (∃ X : Vec F S4x144x4096 .bf16, ⌜t.val ≠ 0 → Const (ind m c t0_0) X⌝ ∗ owns (c : Thread nD τ) (Memref.whole cc0_scratch1) fullShare X)
    ∗ ∃ r, prngReg c r)

/-- The region's proof data. -/
def dats (_ : Fin 1) (c : Dev nD) : Dat τ (Elt F) Unit ℕ (UR sig nD τ) ℕ cfg0 c where
  A w := entry m c (Pipeline.arrRef spec0 w)
  after w t := match w with
    | ⟨0, _⟩ => xin m c t
    | ⟨1, _⟩ => wct m c t
    | ⟨2, _⟩ => mask m c t
    | ⟨3, _⟩ => ind m c t
    | ⟨4, _⟩ => outAt m c t
  Φ t := held m c t
  q _ := fullShare
  owed _ := 0

/-- The data's arrays are those the region finds. -/
theorem arrays_eq (c : Dev nD) (w : Fin cfg0.W) : (dats m 0 c).A w = entry m c (Pipeline.arrRef spec0 w) := by
  dsimp only [dats]

/-- Under any data that find the arrays as the region does and leave the images' block in place, its buffer holds that block before the body. -/
theorem found0 {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Under any data that find the arrays as the region does and leave the weights' block in place, its buffer holds that block before the body. -/
theorem found1 {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Under any data that find the arrays as the region does and leave the mask's block in place, its buffer holds that block before the body. -/
theorem found2 {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Under any data that find the arrays as the region does and leave the indicators' block in place, its buffer holds that block before the body. -/
theorem found3 {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- The data's contents of window 0's buffer after the body. -/
theorem after0 (c : Dev nD) (t : Fin cfg0.N) : (dats m 0 c).after 0 t = xin m c t := by dsimp only [dats]
/-- The data's contents of window 1's buffer after the body. -/
theorem after1 (c : Dev nD) (t : Fin cfg0.N) : (dats m 0 c).after 1 t = wct m c t := by dsimp only [dats]
/-- The data's contents of window 2's buffer after the body. -/
theorem after2 (c : Dev nD) (t : Fin cfg0.N) : (dats m 0 c).after 2 t = mask m c t := by dsimp only [dats]
/-- The data's contents of window 3's buffer after the body. -/
theorem after3 (c : Dev nD) (t : Fin cfg0.N) : (dats m 0 c).after 3 t = ind m c t := by dsimp only [dats]
/-- The data's contents of window 4's buffer after the body. -/
theorem after4 (c : Dev nD) (t : Fin cfg0.N) : (dats m 0 c).after 4 t = outAt m c t := by dsimp only [dats]
/-- The buffer of window 0 holds its block before the body. -/
theorem before0 (c : Dev nD) (t : Fin cfg0.N) (d) : (dats m 0 c).before 0 t d = xin m c t :=
  found0 m (dats m 0 c) (arrays_eq m c 0) (after0 m c) t d
/-- The buffer of window 1 holds its block before the body. -/
theorem before1 (c : Dev nD) (t : Fin cfg0.N) (d) : (dats m 0 c).before 1 t d = wct m c t :=
  found1 m (dats m 0 c) (arrays_eq m c 1) (after1 m c) t d
/-- The buffer of window 2 holds its block before the body. -/
theorem before2 (c : Dev nD) (t : Fin cfg0.N) (d) : (dats m 0 c).before 2 t d = mask m c t :=
  found2 m (dats m 0 c) (arrays_eq m c 2) (after2 m c) t d
/-- The buffer of window 3 holds its block before the body. -/
theorem before3 (c : Dev nD) (t : Fin cfg0.N) (d) : (dats m 0 c).before 3 t d = ind m c t :=
  found3 m (dats m 0 c) (arrays_eq m c 3) (after3 m c) t d

/-- The grid's one coordinate at point `t` is `t`. -/
theorem coord_eq : ∀ t : Fin cfg0.N, ((grid0.coords t) 0).val = t.val := by decide +kernel

/-- What the body is entered with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What the body is left with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at point `t` leads from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0, after1, after2, after3, after4]
  simp only [before0, before1, before2, before3]
  rw [show (dats m 0 c).Φ t.succ = held m c t.succ from rfl, show (dats m 0 c).Φ t.castSucc = held m c t.castSucc from rfl]
  unfold held Dat.owesAt Pipeline.owesWithin
  rw [show (dats m 0 c).owed t.castSucc = 0 from rfl, show (dats m 0 c).owed t.succ = 0 from rfl]
  iintro ⟨⟨⟨%f0, Hf⟩, ⟨%X, %hX, HX⟩, Hg⟩, ⟨%W, -, HW⟩, ⟨%d0, H0⟩, ⟨%d1, H1⟩, ⟨%d2, H2⟩, ⟨%d3, H3⟩, ⟨%d4, H4⟩⟩
  obtain ⟨st', ho, hC, hrun⟩ := point_runs (F := F) c (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _)
    (xin m c t) (wct m c t) (mask m c t) (ind m c t) ⟨(dats m 0 c).before 4 t d4, f0, X⟩
    (fun h => hX (by rw [coord_eq] at h; exact h))
  iapply (hrun _)
  isplitl [Hf HX H0 H1 H2 H3 H4]
  · unfold Own
    isplitl [H0]; · iexact H0
    isplitl [H1]; · iexact H1
    isplitl [H2]; · iexact H2
    isplitl [H3]; · iexact H3
    isplitl [H4]; · iexact H4
    isplitl [Hf]; · iexact Hf
    iexact HX
  unfold Own
  iintro ⟨H0, H1, H2, H3, H4, Hf, HX⟩
  isplitl [Hf HX Hg]
  · isplitl [Hf]; · iexists _; iexact Hf
    isplitl [HX]
    · iexists _; isplitr; swap; · iexact HX
      ipureintro; exact fun _ => hC
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  rw [show outAt m c t = st'.o from ho.symm]
  iexact H4

/-- The body table's row at point `t` is the body there. -/
theorem body_row (t : Fin cfg0.N) :
    defs₀ (F := F) .tc cfg0.body (cfg0.bodyArgs t (cfg0.slots t)) = bodyAt0 t := by
  unfold defs₀; rw [Defs.onTc_tc]

/-- The body keeps to the data. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The region's scratch is enough to begin with. -/
theorem held_in (c : Dev nD) : Pipeline.ΦA (U := UR sig nD τ) (Val := Elt F) spec0 c ⊢ held m c 0 := by
  unfold Pipeline.ΦA held
  rw [scopedRest0_eq]
  simp only [owns_whole]
  iintro ⟨⟨H0, ⟨%f, H1⟩⟩, Hg⟩
  isplitl [H0]; · iexact H0
  isplitl [H1]
  · iexists f; isplitr; swap; · iexact H1
    ipureintro; exact fun h => absurd rfl h
  iexact Hg

/-- The region's scratch is given back at the end. -/
theorem held_out (c : Dev nD) : held m c (Fin.last cfg0.N) ⊢ Pipeline.ΦA (U := UR sig nD τ) (Val := Elt F) spec0 c := by
  unfold Pipeline.ΦA held
  rw [scopedRest0_eq]
  simp only [owns_whole]
  iintro ⟨H0, ⟨%f, -, H1⟩, Hg⟩
  isplitl [H0 H1]
  · isplitl [H0]; · iexact H0
    iexists f; iexact H1
  iexact Hg

set_option backward.isDefEq.respectTransparency.types false in
/-- @main runs, its region to the data and the reshape after it, every counter back at zero. -/
theorem run_main : θ_run defs (onTc (τ := τ) (main (F := F))) (s₀ m ρ)
    (fun r => Pipeline.FramePost cfgs (dats m) 0 (Pipeline.afterTail₀ cfgs (dats m) 0 (atEntry m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := atEntry m) (opss := [hostOps1]) (hsub := late_sub) (hfresh := late_fresh) (hkeep := late_keeps)
    (hmain := main_around m) (hA := arrays_eq m) (hin := held_in m) (hout := held_out m) (Q' := _) (hQ' := fun _ h => h)

/-- An argument ends as launched. -/
theorem arg_kept {r : PUnit × MemSt nD τ sig (Elt F)}
    (h : Pipeline.FramePost cfgs (dats m) 0 (Pipeline.afterTail₀ cfgs (dats m) 0 (atEntry m) [hostOps1]) r) (c : Dev nD) (a : Ref sig .tc)
    (h1 : a ∈ Pipeline.restRefs sig spec0) (h2 : a ≠ main_v337) (h3 : ∀ w, Pipeline.arrRef spec0 w ≠ a)
    (h4 : entry m c a = m ((c : Thread nD τ).loc a)) : r.2.mem ((c : Thread nD τ).loc a) = m ((c : Thread nD τ).loc a) :=
  ((h c).2 a h1).trans ((tail_keeps m (dats m) c a h2 h3).trans h4)

/-- The five arguments end as launched. -/
theorem args_kept {r : PUnit × MemSt nD τ sig (Elt F)}
    (h : Pipeline.FramePost cfgs (dats m) 0 (Pipeline.afterTail₀ cfgs (dats m) 0 (atEntry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨arg_kept m h c main_arg0 (Pipeline.mem_restRefs_of main_arg0 (by decide) (by decide)) (by decide) (by decide) (entry_arg0 m c),
    arg_kept m h c main_arg1 (Pipeline.mem_restRefs_of main_arg1 (by decide) (by decide)) (by decide) (by decide) (entry_arg1 m c),
    arg_kept m h c main_arg2 (Pipeline.mem_restRefs_of main_arg2 (by decide) (by decide)) (by decide) (by decide) (entry_arg2 m c),
    arg_kept m h c main_arg3 (Pipeline.mem_restRefs_of main_arg3 (by decide) (by decide)) (by decide) (by decide) (entry_arg3 m c),
    arg_kept m h c main_arg4 (Pipeline.mem_restRefs_of main_arg4 (by decide) (by decide)) (by decide) (by decide) (entry_arg4 m c)⟩

/-- @main ends, its arguments as launched and every counter back at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_kept m h.1 c, h.2⟩) (run_main m ρ)

end Cert.KernelIdeal.Net

end
-- ==== Proof.KiInputs.lean ====
/- What the host lines leave in the region's four input arrays, as terms over the arguments. -/
module

public import proofs.«01_k».proof.Proof.KiHost

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL.Sem

variable {F : FTy → Type} [FloatOps F]

variable (m : (ℓ : Loc nD τ sig) → Buf (Elt F) ℓ)

/-- The first argument on core `c`. -/
abbrev arg0 (c : Dev nD) : Vec F S256x64x64x1 .f32 := m ((c : Thread nD τ).loc main_arg0)
/-- The second. -/
abbrev arg1 (c : Dev nD) : Vec F S3x3x1x64 .f32 := m ((c : Thread nD τ).loc main_arg1)
/-- The third. -/
abbrev arg2 (c : Dev nD) : Vec F S64 .f32 := m ((c : Thread nD τ).loc main_arg2)
/-- The fourth. -/
abbrev arg3 (c : Dev nD) : Vec F S3x3x64x32 .f32 := m ((c : Thread nD τ).loc main_arg3)
/-- The fifth. -/
abbrev arg4 (c : Dev nD) : Vec F S32 .f32 := m ((c : Thread nD τ).loc main_arg4)

/-- The images as the region reads them: one row an image, zeros before and after it. -/
def padded (x : Vec F S256x64x64x1 .f32) : Vec F S256x4608 .bf16 :=
  truncf .bf16 (pad S256x4608 ![0, 130] ![0, 382] ![0, 0] (shapeCast S256x4096 x shapeCasts_S256x64x64x1_S256x4096)
    (sitofp .f32 (constantI S_ 32 0#32)) pads_S256x4096_S256x4608_000_1303820 h_S_) bitsLt_bf16_f32

/-- The array of padded images is `padded` of the first argument. -/
theorem entry_v2 (c : Dev nD) : entry m c main_v2 = padded (arg0 m c) := by
  unfold entry atEntry
  after_reads_simp
  rfl

/-- The product of the two convolutions' weights, over the channels. -/
def prodW (w1 : Vec F S3x3x1x64 .f32) (w2 : Vec F S3x3x64x32 .f32) : Vec F S9x32x9 .f32 :=
  Host.dotGeneral dot_S9x64x32_S9x64_S9x32x9_1_1_02_0_n_n none (shapeCast S9x64x32 w2 shapeCasts_S3x3x64x32_S9x64x32)
    (shapeCast S9x64 w1 shapeCasts_S3x3x1x64_S9x64)

/-- The product of the first bias and the second weights, over the channels. -/
def prodB (b1 : Vec F S64 .f32) (w2 : Vec F S3x3x64x32 .f32) : Vec F S9x32 .f32 :=
  Host.dotGeneral dot_S64_S9x64x32_S9x32_0_1_n_02_n_n none b1 (shapeCast S9x64x32 w2 shapeCasts_S3x3x64x32_S9x64x32)

/-- One index word. -/
def word1 (k : BitVec 32) : IVec S1 32 := broadcastInDim S1 ![] bcast_S_S1 (constantI S_ 32 k)

/-- The weights' table after its first fill: the first nine columns of each tap. -/
def table1 (w1 : Vec F S3x3x1x64 .f32) (w2 : Vec F S3x3x64x32 .f32) : Vec F S32x9x16 .f32 :=
  Host.scatter scatter_S32x9x16_S1_S32x9x9_012_n_2_0 (fun _ b => b)
    (broadcastInDim S32x9x16 ![] bcast_S_S32x9x16 (constant S_ .f32 0x00000000#32)) (word1 0#32)
    (transpose S32x9x9 [1, 0, 2] (prodW w1 w2) transposes_S9x32x9_S32x9x9_1_0_2)

/-- The weights' table after its second fill: the tenth column of each tap. -/
def table2 (w1 : Vec F S3x3x1x64 .f32) (b1 : Vec F S64 .f32) (w2 : Vec F S3x3x64x32 .f32) : Vec F S32x9x16 .f32 :=
  Host.scatter scatter_S32x9x16_S1_S32x9_01_2_2_0 (fun _ b => b) (table1 w1 w2) (word1 9#32)
    (transpose S32x9 [1, 0] (prodB b1 w2) transposes_S9x32_S32x9_1_0)

/-- The weights' table after its third fill: the eleventh column of the first tap. -/
def table3 (w1 : Vec F S3x3x1x64 .f32) (b1 : Vec F S64 .f32) (w2 : Vec F S3x3x64x32 .f32) (b2 : Vec F S32 .f32) : Vec F S32x9x16 .f32 :=
  Host.scatter scatter_S32x9x16_S2_S32_0_12_12_0 (fun _ b => b) (table2 w1 b1 w2)
    (concatenate S2 0 [⟨S1, word1 0#32⟩, ⟨S1, word1 10#32⟩] concatenates_S1_S1_S2_d0) b2

/-- The weights as the region reads them. -/
def weights (w1 : Vec F S3x3x1x64 .f32) (b1 : Vec F S64 .f32) (w2 : Vec F S3x3x64x32 .f32) (b2 : Vec F S32 .f32) : Vec F S32x144 .bf16 :=
  truncf .bf16 (shapeCast S32x144 (table3 w1 b1 w2 b2) shapeCasts_S32x9x16_S32x144) bitsLt_bf16_f32

/-- The weights' array is `weights` of the last four arguments. -/
theorem entry_v19 (c : Dev nD) : entry m c main_v19 = weights (arg1 m c) (arg2 m c) (arg3 m c) (arg4 m c) := by
  unfold entry atEntry
  after_reads_simp
  rfl

/-- An integer at every place of a padded row. -/
def rowWord (k : BitVec 32) : IVec S4352 32 := broadcastInDim S4352 ![] bcast_S_S4352 (constantI S_ 32 k)

/-- The divisor at every place of a padded row. -/
def divisor : IVec S_ 32 :=
  select (cmpi .eq (constantI S_ 32 64#32) (constantI S_ 32 0#32)) (constantI S_ 32 1#32) (constantI S_ 32 64#32)

/-- The remainder of the place, counted from the image's first, as the division leaves it. -/
def remainder : IVec S4352 32 :=
  Host.remsi (subi (iotaInDim S4352 32 0) (rowWord 130#32)) (broadcastInDim S4352 ![] bcast_S_S4352 divisor)

/-- The column of a place. -/
def column : IVec S4352 32 :=
  select (andi (cmpi .ne (cmpi .slt remainder (rowWord 0#32)) (broadcastInDim S4352 ![] bcast_S_S4352 (cmpi .slt divisor (constantI S_ 32 0#32))))
      (cmpi .ne remainder (rowWord 0#32)))
    (addi remainder (broadcastInDim S4352 ![] bcast_S_S4352 divisor)) remainder

/-- The places of a padded row that begin a window of the first convolution. -/
def maskBits : IVec S4352 1 :=
  andi (andi (cmpi .sge (iotaInDim S4352 32 0) (rowWord 130#32)) (cmpi .slt (iotaInDim S4352 32 0) (rowWord 4098#32)))
    (cmpi .slt column (rowWord 62#32))

/-- The mask's array is `maskBits` as numbers. -/
theorem entry_v33 (c : Dev nD) : entry m c main_v33
    = (broadcastInDim S1x4352 ![1] bcast_S4352_S1x4352_1 (uitofp .bf16 maskBits : Vec F S4352 .bf16)) := by
  unfold entry atEntry
  after_reads_simp
  rfl

/-- An integer at every row or column. -/
def lineWord (k : BitVec 32) : IVec S64 32 := broadcastInDim S64 ![] bcast_S_S64 (constantI S_ 32 k)

/-- The rows, or columns, that the shift by `e` keeps inside the first convolution's result. -/
def within (e : BitVec 32) : IVec S64 1 :=
  andi (cmpi .sge (subi (addi (iotaInDim S64 32 0) (lineWord e)) (lineWord 2#32)) (lineWord 0#32))
    (cmpi .sle (subi (addi (iotaInDim S64 32 0) (lineWord e)) (lineWord 2#32)) (lineWord 61#32))

/-- The places that the shift by `e` rows and `f` columns keeps inside. -/
def square (e f : BitVec 32) : IVec S4096 1 :=
  shapeCast S4096 (andi (broadcastInDim S64x64 ![0, 1] bcast_S64x1_S64x64_0_1 (broadcastInDim S64x1 ![0] bcast_S64_S64x1_0 (within e)))
    (broadcastInDim S64x64 ![0, 1] bcast_S1x64_S64x64_0_1 (broadcastInDim S1x64 ![1] bcast_S64_S1x64_1 (within f)))) shapeCasts_S64x64_S4096

/-- Such places as one row. -/
def lined (v : IVec S4096 1) : IVec S1x4096 1 := broadcastInDim S1x4096 ![1] bcast_S4096_S1x4096_1 v

/-- The ten rows of the indicators. -/
def indBits : IVec S10x4096 1 :=
  concatenate S10x4096 0 [⟨S1x4096, lined (square 0#32 0#32)⟩, ⟨S1x4096, lined (square 0#32 1#32)⟩, ⟨S1x4096, lined (square 0#32 2#32)⟩,
    ⟨S1x4096, lined (square 1#32 0#32)⟩, ⟨S1x4096, lined (square 1#32 1#32)⟩, ⟨S1x4096, lined (square 1#32 2#32)⟩,
    ⟨S1x4096, lined (square 2#32 0#32)⟩, ⟨S1x4096, lined (square 2#32 1#32)⟩, ⟨S1x4096, lined (square 2#32 2#32)⟩,
    ⟨S1x4096, lined (broadcastInDim S4096 ![] bcast_S_S4096 (constantI S_ 1 1#1))⟩]
    concatenates_S1x4096_S1x4096_S1x4096_S1x4096_S1x4096_S1x4096_S1x4096_S1x4096_S1x4096_S1x4096_S10x4096_d0

end Cert.KernelIdeal.Net

end
-- ==== Proof.KiMarks.lean ====
/- What the host lines leave in the region's array of indicators. -/
module

public import proofs.«01_k».proof.Proof.KiInputs

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL.Sem

variable {F : FTy → Type} [FloatOps F]

variable (m : (ℓ : Loc nD τ sig) → Buf (Elt F) ℓ)

set_option maxHeartbeats 4000000 in
/-- The indicators' array is `indBits` as numbers. -/
theorem entry_v335 (c : Dev nD) : entry m c main_v335 = (uitofp .bf16 indBits : Vec F S10x4096 .bf16) := by
  unfold entry atEntry
  after_reads_simp
  rfl

end Cert.KernelIdeal.Net

end
-- ==== Proof.KiRead.lean ====
/- The region's four input arrays at an index, over the ideal numbers. -/
module

public import proofs.«01_k».proof.Proof.KiInputs
public import Idealize.ShloMosaic.Lib.Pointwise
public import Idealize.ShloMosaic.Lib.Routing.OpsOne

@[expose] public section

set_option maxRecDepth 16384

noncomputable section

namespace Cert.KernelIdeal.Net

open Cert.KernelIdeal Cert.KernelIdeal.Gen
open Idealize.ShloMosaic Idealize.ShloMosaic.TcCoe Idealize.ShloMosaic.Tactic

/-- The integer zero as a number. -/
theorem sitofp_zero : (FloatOps.sitofp (F := Ideal) .f32 (0#32) : EReal) = 0 := by
  show ((((0#32 : BitVec 32).toInt : ℝ) : EReal)) = 0
  norm_num

/-- A padded image at a place: the image's element from place 130 on, zero outside. -/
theorem padded_apply (x : Vec Ideal S256x64x64x1 .f32) (n : Fin 256) (q : Fin 4608) :
    (padded x (ix2 n q) : EReal) = if h : 130 ≤ q.val ∧ q.val < 4226 then
      x (ix4 n ⟨(q.val - 130) / 64, by omega⟩ ⟨(q.val - 130) % 64, by omega⟩ 0) else 0 := by
  pointwise [padded]
  by_cases h : 130 ≤ q.val ∧ q.val < 4226
  · rw [dif_pos h, dif_pos (by omega)]
  · rw [dif_neg h, dif_neg (by omega)]
    exact sitofp_zero

/-- The product of the two weights, tap by tap. -/
theorem prodW_apply (w1 : Vec Ideal S3x3x1x64 .f32) (w2 : Vec Ideal S3x3x64x32 .f32) (t : Fin 9) (o : Fin 32) (u : Fin 9) :
    (prodW w1 w2 (ix3 t o u) : EReal) = ∑ c : Fin 64, w2 (ix4 ⟨t.val / 3, by omega⟩ ⟨t.val % 3, by omega⟩ c o) * w1 (ix4 ⟨u.val / 3, by omega⟩ ⟨u.val % 3, by omega⟩ 0 c) := by
  pointwise [prodW]

/-- The product of the first bias and the second weights, tap by tap. -/
theorem prodB_apply (b1 : Vec Ideal S64 .f32) (w2 : Vec Ideal S3x3x64x32 .f32) (t : Fin 9) (o : Fin 32) :
    (prodB b1 w2 (ix2 t o) : EReal) = ∑ c : Fin 64, b1 (ix1 c) * w2 (ix4 ⟨t.val / 3, by omega⟩ ⟨t.val % 3, by omega⟩ c o) := by
  pointwise [prodB]

/-- The mask's bit at a place. -/
theorem maskBits_apply (l : Fin 4352) : maskBits (ix1 l) = if 130 ≤ l.val ∧ l.val < 4098 ∧ (l.val - 130) % 64 < 62 then 1#1 else 0#1 := by
  pointwise [maskBits, column, remainder, divisor, rowWord]
  revert l
  decide +kernel

/-- The rows that a shift keeps inside, one by one. -/
theorem within_apply (e : Fin 3) (q : Fin 64) : within (BitVec.ofNat 32 e.val) (ix1 q) = if 2 ≤ q.val + e.val ∧ q.val + e.val < 64 then 1#1 else 0#1 := by
  pointwise [within, lineWord]
  revert e q
  decide +kernel

/-- The places that a shift keeps inside, one by one. -/
theorem square_apply (e f : Fin 3) (p : Fin 4096) : square (BitVec.ofNat 32 e.val) (BitVec.ofNat 32 f.val) (ix1 p)
    = if (2 ≤ p.val / 64 + e.val ∧ p.val / 64 + e.val < 64) ∧ 2 ≤ p.val % 64 + f.val ∧ p.val % 64 + f.val < 64 then 1#1 else 0#1 := by
  pointwise [square]
  rw [within_apply, within_apply]
  by_cases h1 : 2 ≤ p.val / 64 + e.val ∧ p.val / 64 + e.val < 64 <;> by_cases h2 : 2 ≤ p.val % 64 + f.val ∧ p.val % 64 + f.val < 64
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

/-- The indicators' bits of a tap. -/
theorem indBits_apply (t : Fin 9) (p : Fin 4096) : indBits (ix2 ⟨t.val, by omega⟩ p)
    = if (2 ≤ p.val / 64 + t.val / 3 ∧ p.val / 64 + t.val / 3 < 64) ∧ 2 ≤ p.val % 64 + t.val % 3 ∧ p.val % 64 + t.val % 3 < 64 then 1#1 else 0#1 := by
  rw [← square_apply ⟨t.val / 3, by omega⟩ ⟨t.val % 3, by omega⟩ p]
  pointwise [indBits, lined]
  fin_vals t with hk
  all_goals simp only [hk, Nat.reduceSub, Nat.reduceLT, ↓reduceDIte, Nat.reduceDiv, Nat.reduceMod]

/-- The last row of the indicators is ones. -/
theorem indBits_last (p : Fin 4096) : indBits (ix2 9 p) = 1#1 := by
  pointwise [indBits, lined]

/-- A mask's bit as a number. -/
theorem mask_row (v : IVec S4352 1) (l : Fin 4352) : ((broadcastInDim S1x4352 ![1] bcast_S4352_S1x4352_1 (uitofp .bf16 v : FVec Ideal S4352 .bf16) : Vec Ideal S1x4352 .bf16) (ix2 0 l) : EReal) = ((v (ix1 l)).toNat : ℝ) := by
  pointwise []
  rfl

/-- A one bit is the number one. -/
theorem one_bit : ((((1#1 : BitVec 1).toNat : ℝ)) : EReal) = 1 := by norm_num

/-- A zero bit is the number zero. -/
theorem zero_bit : ((((0#1 : BitVec 1).toNat : ℝ)) : EReal) = 0 := by norm_num

/-- An indicator's bit as a number. -/
theorem ind_row (t : Fin 10) (p : Fin 4096) : ((uitofp .bf16 indBits : FVec Ideal S10x4096 .bf16) (ix2 t p) : EReal) = ((indBits (ix2 t p)).toNat : ℝ) := by
  rfl

section Scatter
open Routing

variable {F : FTy → Type} [FloatOps F]

/-- Where an update of the image weights' scatter lands. -/
theorem lands1 (o' : Fin 32) (t' : Fin 9) (u : Fin 9) (o : Fin 32) (t : Fin 9) (k : Fin 16) :
    scatter_S32x9x16_S1_S32x9x9_012_n_2_0.resultIdx? (ix3 o' t' u) (word1 0#32) = some (ix3 o t k) ↔ o' = o ∧ t' = t ∧ u.val = k.val := by
  rw [resultIdx?_eq_some]
  have w0 : scatter_S32x9x16_S1_S32x9x9_012_n_2_0.window (ix3 o' t' u) 0 = o'.val := rfl
  have w1 : scatter_S32x9x16_S1_S32x9x9_012_n_2_0.window (ix3 o' t' u) 1 = t'.val := rfl
  have w2 : scatter_S32x9x16_S1_S32x9x9_012_n_2_0.window (ix3 o' t' u) 2 = u.val := rfl
  have s0 : scatter_S32x9x16_S1_S32x9x9_012_n_2_0.start (ix3 o' t' u) (word1 0#32) 0 = 0 := rfl
  have s1 : scatter_S32x9x16_S1_S32x9x9_012_n_2_0.start (ix3 o' t' u) (word1 0#32) 1 = 0 := rfl
  have s2 : scatter_S32x9x16_S1_S32x9x9_012_n_2_0.start (ix3 o' t' u) (word1 0#32) 2 = 0 := rfl
  constructor
  · intro h
    have h0 := h 0
    have h1 := h 1
    have h2 := h 2
    rw [w0, s0] at h0
    rw [w1, s1] at h1
    rw [w2, s2] at h2
    exact ⟨Fin.ext (by have : ((ix3 o t k : S32x9x16.Idx) 0).val = o.val := rfl; omega), Fin.ext (by have : ((ix3 o t k : S32x9x16.Idx) 1).val = t.val := rfl; omega),
      by have : ((ix3 o t k : S32x9x16.Idx) 2).val = k.val := rfl; omega⟩
  · rintro ⟨rfl, rfl, h⟩ a
    match a with
    | ⟨0, _⟩ => exact (congrArg₂ (fun p q => p + (q : Int)) s0 (congrArg Nat.cast w0)).trans (zero_add _)
    | ⟨1, _⟩ => exact (congrArg₂ (fun p q => p + (q : Int)) s1 (congrArg Nat.cast w1)).trans (zero_add _)
    | ⟨2, _⟩ => exact (congrArg₂ (fun p q => p + (q : Int)) s2 (congrArg Nat.cast w2)).trans ((zero_add _).trans (congrArg Nat.cast h))

/-- Where an update of the first bias's scatter lands. -/
theorem lands2 (o' : Fin 32) (t' : Fin 9) (o : Fin 32) (t : Fin 9) (k : Fin 16) :
    scatter_S32x9x16_S1_S32x9_01_2_2_0.resultIdx? (ix2 o' t') (word1 9#32) = some (ix3 o t k) ↔ o' = o ∧ t' = t ∧ k.val = 9 := by
  rw [resultIdx?_eq_some]
  have w0 : scatter_S32x9x16_S1_S32x9_01_2_2_0.window (ix2 o' t') 0 = o'.val := rfl
  have w1 : scatter_S32x9x16_S1_S32x9_01_2_2_0.window (ix2 o' t') 1 = t'.val := rfl
  have w2 : scatter_S32x9x16_S1_S32x9_01_2_2_0.window (ix2 o' t') 2 = 0 := rfl
  have s0 : scatter_S32x9x16_S1_S32x9_01_2_2_0.start (ix2 o' t') (word1 9#32) 0 = 0 := rfl
  have s1 : scatter_S32x9x16_S1_S32x9_01_2_2_0.start (ix2 o' t') (word1 9#32) 1 = 0 := rfl
  have s2 : scatter_S32x9x16_S1_S32x9_01_2_2_0.start (ix2 o' t') (word1 9#32) 2 = 9 := rfl
  constructor
  · intro h
    have h0 := h 0
    have h1 := h 1
    have h2 := h 2
    rw [w0, s0] at h0
    rw [w1, s1] at h1
    rw [w2, s2] at h2
    exact ⟨Fin.ext (by have : ((ix3 o t k : S32x9x16.Idx) 0).val = o.val := rfl; omega), Fin.ext (by have : ((ix3 o t k : S32x9x16.Idx) 1).val = t.val := rfl; omega),
      by have : ((ix3 o t k : S32x9x16.Idx) 2).val = k.val := rfl; omega⟩
  · rintro ⟨rfl, rfl, h⟩ a
    match a with
    | ⟨0, _⟩ => exact (congrArg₂ (fun p q => p + (q : Int)) s0 (congrArg Nat.cast w0)).trans (zero_add _)
    | ⟨1, _⟩ => exact (congrArg₂ (fun p q => p + (q : Int)) s1 (congrArg Nat.cast w1)).trans (zero_add _)
    | ⟨2, _⟩ => exact (congrArg₂ (fun p q => p + (q : Int)) s2 (congrArg Nat.cast w2)).trans (congrArg Nat.cast h.symm)

/-- The two index words of the third fill. -/
theorem words_apply (q : Fin 2) : (concatenate S2 0 [⟨S1, word1 0#32⟩, ⟨S1, word1 10#32⟩] concatenates_S1_S1_S2_d0 : IVec S2 32) (ix1 q) = if q.val = 0 then 0#32 else 10#32 := by
  pointwise [word1]
  by_cases h : q.val < 1
  · rw [dif_pos h, if_pos (by omega)]
  · rw [dif_neg h, if_neg (by omega)]

/-- Where an update of the second bias's scatter lands. -/
theorem lands3 (v : IVec S2 32) (h0 : v (ix1 0) = 0#32) (h1 : v (ix1 1) = 10#32) (o' : Fin 32) (o : Fin 32) (t : Fin 9) (k : Fin 16) :
    scatter_S32x9x16_S2_S32_0_12_12_0.resultIdx? (ix1 o') v = some (ix3 o t k) ↔ o' = o ∧ t.val = 0 ∧ k.val = 10 := by
  rw [resultIdx?_eq_some]
  have w0 : scatter_S32x9x16_S2_S32_0_12_12_0.window (ix1 o') 0 = o'.val := rfl
  have w1 : scatter_S32x9x16_S2_S32_0_12_12_0.window (ix1 o') 1 = 0 := rfl
  have w2 : scatter_S32x9x16_S2_S32_0_12_12_0.window (ix1 o') 2 = 0 := rfl
  have s0 : scatter_S32x9x16_S2_S32_0_12_12_0.start (ix1 o') v 0 = 0 := rfl
  have s1 : scatter_S32x9x16_S2_S32_0_12_12_0.start (ix1 o') v 1 = 0 := by
    refine Eq.trans (b := (v (ix1 0)).toInt) (congrArg (fun z => (v z).toInt) ?_) (by rw [h0]; rfl)
    funext b
    obtain rfl : b = 0 := Subsingleton.elim (α := Fin 1) _ _
    rfl
  have s2 : scatter_S32x9x16_S2_S32_0_12_12_0.start (ix1 o') v 2 = 10 := by
    refine Eq.trans (b := (v (ix1 1)).toInt) (congrArg (fun z => (v z).toInt) ?_) (by rw [h1]; rfl)
    funext b
    obtain rfl : b = 0 := Subsingleton.elim (α := Fin 1) _ _
    rfl
  constructor
  · intro h
    have h0 := h 0
    have h1 := h 1
    have h2 := h 2
    rw [w0, s0] at h0
    rw [w1, s1] at h1
    rw [w2, s2] at h2
    exact ⟨Fin.ext (by have : ((ix3 o t k : S32x9x16.Idx) 0).val = o.val := rfl; omega), by have : ((ix3 o t k : S32x9x16.Idx) 1).val = t.val := rfl; omega,
      by have : ((ix3 o t k : S32x9x16.Idx) 2).val = k.val := rfl; omega⟩
  · rintro ⟨rfl, ht, hk⟩ a
    match a with
    | ⟨0, _⟩ => exact (congrArg₂ (fun p q => p + (q : Int)) s0 (congrArg Nat.cast w0)).trans (zero_add _)
    | ⟨1, _⟩ => exact (congrArg₂ (fun p q => p + (q : Int)) s1 (congrArg Nat.cast w1)).trans (congrArg Nat.cast ht.symm)
    | ⟨2, _⟩ => exact (congrArg₂ (fun p q => p + (q : Int)) s2 (congrArg Nat.cast w2)).trans (congrArg Nat.cast hk.symm)

end Scatter

/-- The weights' table at an entry. -/
theorem table3_apply (w1 : Vec Ideal S3x3x1x64 .f32) (b1 : Vec Ideal S64 .f32) (w2 : Vec Ideal S3x3x64x32 .f32) (b2 : Vec Ideal S32 .f32)
    (o : Fin 32) (t : Fin 9) (k : Fin 16) :
    (table3 w1 b1 w2 b2 (ix3 o t k) : EReal) = if h : k.val < 9 then (prodW w1 w2 (ix3 t o ⟨k.val, h⟩) : EReal)
      else if k.val = 9 then (prodB b1 w2 (ix2 t o) : EReal) else if t.val = 0 ∧ k.val = 10 then b2 (ix1 o) else 0 := by
  have h1 : table1 w1 w2 (ix3 o t k) = if h : k.val < 9 then (prodW w1 w2 (ix3 t o ⟨k.val, h⟩) : EReal) else 0 := by
    unfold table1
    by_cases h : k.val < 9
    · rw [dif_pos h]
      refine (Routing.scatter_set_hit _ _ _ _ _ (transpose S32x9x9 [1, 0, 2] (prodW w1 w2) transposes_S9x32x9_S32x9x9_1_0_2 (ix3 o t ⟨k.val, h⟩)) (fun j hj => ?_) (ix3 o t ⟨k.val, h⟩) ((lands1 _ _ _ _ _ _).2 ⟨rfl, rfl, rfl⟩)).trans ?_
      · rw [eq_ix3 j] at hj ⊢
        obtain ⟨e0, e1, e2⟩ := (lands1 _ _ _ _ _ _).1 hj
        have e2' : j 2 = ⟨k.val, h⟩ := Fin.ext e2
        rw [e0, e1, e2']
        rfl
      · pointwise []
    · rw [dif_neg h]
      refine (Routing.scatter_set_miss _ _ _ _ _ fun j hj => ?_).trans ?_
      · rw [eq_ix3 j] at hj
        have e2 := ((lands1 _ _ _ _ _ _).1 hj).2.2
        have : (j 2).val < 9 := (j 2).isLt
        omega
      · pointwise []
  have h2 : table2 w1 b1 w2 (ix3 o t k) = if k.val = 9 then (prodB b1 w2 (ix2 t o) : EReal) else table1 w1 w2 (ix3 o t k) := by
    unfold table2
    by_cases h : k.val = 9
    · rw [if_pos h]
      refine (Routing.scatter_set_hit _ _ _ _ _ (transpose S32x9 [1, 0] (prodB b1 w2) transposes_S9x32_S32x9_1_0 (ix2 o t)) (fun j hj => ?_) (ix2 o t) ((lands2 _ _ _ _ _).2 ⟨rfl, rfl, h⟩)).trans ?_
      · rw [eq_ix2 j] at hj ⊢
        obtain ⟨e0, e1, _⟩ := (lands2 _ _ _ _ _).1 hj
        rw [e0, e1]
      · pointwise []
    · rw [if_neg h]
      refine Routing.scatter_set_miss _ _ _ _ _ fun j hj => ?_
      rw [eq_ix2 j] at hj
      exact h ((lands2 _ _ _ _ _).1 hj).2.2
  have hw := lands3 (concatenate S2 0 [⟨S1, word1 0#32⟩, ⟨S1, word1 10#32⟩] concatenates_S1_S1_S2_d0) ((words_apply 0).trans rfl) ((words_apply 1).trans rfl)
  unfold table3
  by_cases h : t.val = 0 ∧ k.val = 10
  · rw [dif_neg (by omega), if_neg (by omega), if_pos h]
    refine Routing.scatter_set_hit _ _ _ _ _ _ (fun j hj => ?_) (ix1 o) ((hw _ _ _ _).2 ⟨rfl, h⟩)
    rw [eq_ix1 j] at hj ⊢
    rw [((hw _ _ _ _).1 hj).1]
  · rw [if_neg h]
    refine (Routing.scatter_set_miss _ _ _ _ _ fun j hj => ?_).trans ?_
    · rw [eq_ix1 j] at hj
      exact h ((hw _ _ _ _).1 hj).2
    · rw [h2, h1]
      by_cases h9 : k.val = 9
      · rw [if_pos h9, dif_neg (by omega), if_pos h9]
      · rw [if_neg h9, if_neg h9]

/-- The weights at a row and a column. -/
theorem weights_apply (w1 : Vec Ideal S3x3x1x64 .f32) (b1 : Vec Ideal S64 .f32) (w2 : Vec Ideal S3x3x64x32 .f32) (b2 : Vec Ideal S32 .f32)
    (o : Fin 32) (k : Fin 144) :
    (weights w1 b1 w2 b2 (ix2 o k) : EReal) = table3 w1 b1 w2 b2 (ix3 o ⟨k.val / 16, by omega⟩ ⟨k.val % 16, by omega⟩) := by
  pointwise [weights]

end Cert.KernelIdeal.Net

end
-- ==== Proof.RefValue.lean ====
/- The reference's result as a term, and that term at an index over the ideal numbers. -/
module

public import proofs.«01_k».proof.Proof.Gen.ReferenceIdeal.Run
public import Idealize.ShloMosaic.Lib.Pointwise

@[expose] public section

set_option maxRecDepth 16384

noncomputable section

namespace Cert.ReferenceIdeal.Net

open Cert.ReferenceIdeal Cert.ReferenceIdeal.Gen
open Idealize.ShloMosaic Idealize.ShloMosaic.TcCoe Idealize.ShloMosaic.Tactic

variable {F : FTy → Type} [FloatOps F]

/-- One tap of the first convolution: the images from row `i` and column `j` on, times the tap's weights. -/
def near (i j : ℕ) (h : S256x64x64.Slices ![0, i, j] S256x62x62) (hw : S3x3x1x64.Slices ![i, j, 0, 0] S1x1x1x64)
    (x : Vec F S256x64x64x1 .f32) (w1 : Vec F S3x3x1x64 .f32) : FVec F S256x62x62x64 .f32 :=
  mulf (broadcastInDim S256x62x62x64 ![0, 1, 2, 3] bcast_S256x62x62x1_S256x62x62x64_0_1_2_3
      (broadcastInDim S256x62x62x1 ![0, 1, 2] bcast_S256x62x62_S256x62x62x1_0_1_2
        (extractStridedSlice S256x62x62 ![0, i, j] (shapeCast S256x64x64 x shapeCasts_S256x64x64x1_S256x64x64) h)))
    (broadcastInDim S256x62x62x64 ![0, 1, 2, 3] bcast_S1x1x1x64_S256x62x62x64_0_1_2_3
      (broadcastInDim S1x1x1x64 ![3] bcast_S64_S1x1x1x64_3 (shapeCast S64 (extractStridedSlice S1x1x1x64 ![i, j, 0, 0] w1 hw) shapeCasts_S1x1x1x64_S64)))

/-- The first convolution with its bias. -/
def conv (x : Vec F S256x64x64x1 .f32) (w1 : Vec F S3x3x1x64 .f32) (b1 : Vec F S64 .f32) : FVec F S256x62x62x64 .f32 :=
  addf (addf (addf (addf (addf (addf (addf (addf (addf (addf (broadcastInDim S256x62x62x64 ![] bcast_S_S256x62x62x64 (constant S_ .f32 0x00000000#32))
    (near 0 0 slices_S256x64x64_S256x62x62_0_0_0 slices_S3x3x1x64_S1x1x1x64_0_0_0_0 x w1))
    (near 0 1 slices_S256x64x64_S256x62x62_0_0_1 slices_S3x3x1x64_S1x1x1x64_0_1_0_0 x w1))
    (near 0 2 slices_S256x64x64_S256x62x62_0_0_2 slices_S3x3x1x64_S1x1x1x64_0_2_0_0 x w1))
    (near 1 0 slices_S256x64x64_S256x62x62_0_1_0 slices_S3x3x1x64_S1x1x1x64_1_0_0_0 x w1))
    (near 1 1 slices_S256x64x64_S256x62x62_0_1_1 slices_S3x3x1x64_S1x1x1x64_1_1_0_0 x w1))
    (near 1 2 slices_S256x64x64_S256x62x62_0_1_2 slices_S3x3x1x64_S1x1x1x64_1_2_0_0 x w1))
    (near 2 0 slices_S256x64x64_S256x62x62_0_2_0 slices_S3x3x1x64_S1x1x1x64_2_0_0_0 x w1))
    (near 2 1 slices_S256x64x64_S256x62x62_0_2_1 slices_S3x3x1x64_S1x1x1x64_2_1_0_0 x w1))
    (near 2 2 slices_S256x64x64_S256x62x62_0_2_2 slices_S3x3x1x64_S1x1x1x64_2_2_0_0 x w1))
    (broadcastInDim S256x62x62x64 ![0, 1, 2, 3] bcast_S1x1x1x64_S256x62x62x64_0_1_2_3 (broadcastInDim S1x1x1x64 ![3] bcast_S64_S1x1x1x64_3 b1))

/-- The first convolution inside a border of two zeros. -/
def inner (x : Vec F S256x64x64x1 .f32) (w1 : Vec F S3x3x1x64 .f32) (b1 : Vec F S64 .f32) : FVec F S256x66x66x64 .f32 :=
  pad S256x66x66x64 ![0, 2, 2, 0] ![0, 2, 2, 0] ![0, 0, 0, 0] (conv x w1 b1) (sitofp .f32 (constantI S_ 32 0#32))
    pads_S256x62x62x64_S256x66x66x64_000_220_220_000 h_S_

/-- One tap of the second convolution: the bordered array from row `i` and column `j` on, times the tap's weights. -/
def far (i j : ℕ) (h : S256x66x66x64.Slices ![0, i, j, 0] S256x64x64x64) (hw : S3x3x64x32.Slices ![i, j, 0, 0] S1x1x64x32)
    (y : FVec F S256x66x66x64 .f32) (w2 : Vec F S3x3x64x32 .f32) : FVec F S256x64x64x32 .f32 :=
  Host.dotGeneral dot_S256x64x64x64_S64x32_S256x64x64x32_3_0_012_1_n_n none (extractStridedSlice S256x64x64x64 ![0, i, j, 0] y h)
    (shapeCast S64x32 (extractStridedSlice S1x1x64x32 ![i, j, 0, 0] w2 hw) shapeCasts_S1x1x64x32_S64x32)

/-- The second convolution of a bordered array, with its bias. -/
def outer (y : FVec F S256x66x66x64 .f32) (w2 : Vec F S3x3x64x32 .f32) (b2 : Vec F S32 .f32) : FVec F S256x64x64x32 .f32 :=
  addf (addf (addf (addf (addf (addf (addf (addf (addf (addf (broadcastInDim S256x64x64x32 ![] bcast_S_S256x64x64x32 (constant S_ .f32 0x00000000#32))
    (far 0 0 slices_S256x66x66x64_S256x64x64x64_0_0_0_0 slices_S3x3x64x32_S1x1x64x32_0_0_0_0 y w2))
    (far 0 1 slices_S256x66x66x64_S256x64x64x64_0_0_1_0 slices_S3x3x64x32_S1x1x64x32_0_1_0_0 y w2))
    (far 0 2 slices_S256x66x66x64_S256x64x64x64_0_0_2_0 slices_S3x3x64x32_S1x1x64x32_0_2_0_0 y w2))
    (far 1 0 slices_S256x66x66x64_S256x64x64x64_0_1_0_0 slices_S3x3x64x32_S1x1x64x32_1_0_0_0 y w2))
    (far 1 1 slices_S256x66x66x64_S256x64x64x64_0_1_1_0 slices_S3x3x64x32_S1x1x64x32_1_1_0_0 y w2))
    (far 1 2 slices_S256x66x66x64_S256x64x64x64_0_1_2_0 slices_S3x3x64x32_S1x1x64x32_1_2_0_0 y w2))
    (far 2 0 slices_S256x66x66x64_S256x64x64x64_0_2_0_0 slices_S3x3x64x32_S1x1x64x32_2_0_0_0 y w2))
    (far 2 1 slices_S256x66x66x64_S256x64x64x64_0_2_1_0 slices_S3x3x64x32_S1x1x64x32_2_1_0_0 y w2))
    (far 2 2 slices_S256x66x66x64_S256x64x64x64_0_2_2_0 slices_S3x3x64x32_S1x1x64x32_2_2_0_0 y w2))
    (broadcastInDim S256x64x64x32 ![0, 1, 2, 3] bcast_S1x1x1x32_S256x64x64x32_0_1_2_3 (broadcastInDim S1x1x1x32 ![3] bcast_S32_S1x1x1x32_3 b2))

/-- The reference's result: both convolutions, the channels moved before the rows. -/
def result (x : Vec F S256x64x64x1 .f32) (w1 : Vec F S3x3x1x64 .f32) (b1 : Vec F S64 .f32) (w2 : Vec F S3x3x64x32 .f32) (b2 : Vec F S32 .f32) :
    Vec F S256x32x64x64 .f32 :=
  transpose S256x32x64x64 [0, 3, 1, 2] (outer (inner x w1 b1) w2 b2) transposes_S256x64x64x32_S256x32x64x64_0_3_1_2

/-- The run leaves `result` of the five arguments. -/
theorem res_eq (m : (ℓ : Loc nD τ sig) → Buf (Elt F) ℓ) (c : Dev nD) : Value.res_main_v136 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v136
  rfl

/-- Nine terms added in order are a sum over nine places. -/
theorem sum_nine (f : Fin 9 → EReal) {a0 a1 a2 a3 a4 a5 a6 a7 a8 : EReal} (h0 : a0 = f 0) (h1 : a1 = f 1) (h2 : a2 = f 2) (h3 : a3 = f 3)
    (h4 : a4 = f 4) (h5 : a5 = f 5) (h6 : a6 = f 6) (h7 : a7 = f 7) (h8 : a8 = f 8) : a0 + a1 + a2 + a3 + a4 + a5 + a6 + a7 + a8 = ∑ u, f u := by
  subst h0 h1 h2 h3 h4 h5 h6 h7 h8
  simp only [Fin.sum_univ_castSucc, Fin.sum_univ_zero, zero_add]
  rfl

/-- The first convolution at an index. -/
theorem conv_apply (x : Vec Ideal S256x64x64x1 .f32) (w1 : Vec Ideal S3x3x1x64 .f32) (b1 : Vec Ideal S64 .f32)
    (n : Fin 256) (p q : Fin 62) (c : Fin 64) : (conv x w1 b1 (ix4 n p q c) : EReal)
      = (∑ u : Fin 9, x (ix4 n ⟨p.val + u.val / 3, by omega⟩ ⟨q.val + u.val % 3, by omega⟩ 0)
          * w1 (ix4 ⟨u.val / 3, by omega⟩ ⟨u.val % 3, by omega⟩ 0 c)) + b1 (ix1 c) := by
  pointwise [conv, near]
  refine congrArg₂ (fun a b : EReal => a + b) (sum_nine _ ?_ ?_ ?_ ?_ ?_ ?_ ?_ ?_ ?_) rfl
  all_goals exact congrArg₂ (fun a b : EReal => a * b) (congrArg x (congrArg₂ (fun a b => ix4 n a b 0) (Fin.ext (by first | rfl | exact Nat.add_comm _ _))
    (Fin.ext (by first | rfl | exact Nat.add_comm _ _)))) rfl

/-- The integer zero as a number. -/
theorem sitofp_zero : (FloatOps.sitofp (F := Ideal) .f32 (0#32) : EReal) = 0 := by
  show ((((0#32 : BitVec 32).toInt : ℝ) : EReal)) = 0
  norm_num

/-- The bordered array at an index. -/
theorem inner_apply (x : Vec Ideal S256x64x64x1 .f32) (w1 : Vec Ideal S3x3x1x64 .f32) (b1 : Vec Ideal S64 .f32)
    (n : Fin 256) (a b : Fin 66) (c : Fin 64) : (inner x w1 b1 (ix4 n a b c) : EReal)
      = if h : (2 ≤ a.val ∧ a.val < 64) ∧ 2 ≤ b.val ∧ b.val < 64 then
          (conv x w1 b1 (ix4 n ⟨a.val - 2, by omega⟩ ⟨b.val - 2, by omega⟩ c) : EReal) else 0 := by
  pointwise [inner]
  by_cases h : (2 ≤ a.val ∧ a.val < 64) ∧ 2 ≤ b.val ∧ b.val < 64
  · rw [dif_pos h, dif_pos (by omega)]
  · rw [dif_neg h, dif_neg (by omega)]
    exact sitofp_zero

/-- The second convolution at an index. -/
theorem result_apply (x : Vec Ideal S256x64x64x1 .f32) (w1 : Vec Ideal S3x3x1x64 .f32) (b1 : Vec Ideal S64 .f32)
    (w2 : Vec Ideal S3x3x64x32 .f32) (b2 : Vec Ideal S32 .f32) (n : Fin 256) (o : Fin 32) (p q : Fin 64) : (result x w1 b1 w2 b2 (ix4 n o p q) : EReal)
      = (∑ t : Fin 9, ∑ c : Fin 64, inner x w1 b1 (ix4 n ⟨p.val + t.val / 3, by omega⟩ ⟨q.val + t.val % 3, by omega⟩ c)
          * w2 (ix4 ⟨t.val / 3, by omega⟩ ⟨t.val % 3, by omega⟩ c o)) + b2 (ix1 o) := by
  pointwise [result, outer, far]
  refine congrArg₂ (fun a b : EReal => a + b) (sum_nine _ ?_ ?_ ?_ ?_ ?_ ?_ ?_ ?_ ?_) rfl
  all_goals exact Finset.sum_congr rfl fun c _ => congrArg₂ (fun a b : EReal => a * b) (congrArg (inner x w1 b1) (congrArg₂ (fun a b => ix4 n a b c)
    (Fin.ext (by first | rfl | exact Nat.add_comm _ _)) (Fin.ext (by first | rfl | exact Nat.add_comm _ _)))) rfl

end Cert.ReferenceIdeal.Net

end
-- ==== Proof.Sums.lean ====
/- The sums of the two programs, as extended reals: the weights multiplied first, or the images first. -/
module

public import Mathlib.Data.EReal.Operations
public import Mathlib.Algebra.BigOperators.Fin
public import Mathlib.Algebra.BigOperators.Ring.Finset
public import Mathlib.Tactic.Ring
public import Mathlib.Tactic.NormNum

@[expose] public section

namespace Cert.Net

/-- A real factor spreads over the sum of a real and any extended real. -/
theorem add_mul_real (s w : ℝ) (b : EReal) : ((s : EReal) + b) * (w : EReal) = (s : EReal) * w + b * w := by
  induction b with
  | coe b => rw [← EReal.coe_add, ← EReal.coe_mul, ← EReal.coe_mul, ← EReal.coe_mul, ← EReal.coe_add, add_mul]
  | top =>
    rw [EReal.coe_add_top, ← EReal.coe_mul]
    rcases lt_trichotomy w 0 with h | h | h
    · rw [EReal.top_mul_coe_of_neg h, EReal.add_bot]
    · subst h; simp
    · rw [EReal.top_mul_coe_of_pos h, EReal.coe_add_top]
  | bot =>
    rw [EReal.add_bot, ← EReal.coe_mul]
    rcases lt_trichotomy w 0 with h | h | h
    · rw [EReal.bot_mul_coe_of_neg h, EReal.coe_add_top]
    · subst h; simp
    · rw [EReal.bot_mul_coe_of_pos h, EReal.add_bot]

/-- A finite sum of reals is the real of the sum. -/
theorem sum_coe {n : ℕ} (f : Fin n → ℝ) : (∑ i, (f i : EReal)) = ((∑ i, f i : ℝ) : EReal) := by
  induction n with
  | zero => simp
  | succ n ih => rw [Fin.sum_univ_succ, Fin.sum_univ_succ, ih, EReal.coe_add]

/-- One tap inside: the weights' products applied to the images, plus the bias' product, are the second weights applied
    to the first convolution with its bias. Images and weights are real; the bias is any extended real. -/
theorem tap_eq (X : Fin 9 → ℝ) (A : Fin 9 → Fin 64 → ℝ) (B : Fin 64 → ℝ) (β : Fin 64 → EReal) :
    (∑ u, (∑ c, (B c : EReal) * (A u c : EReal)) * (X u : EReal)) + ∑ c, β c * (B c : EReal)
      = ∑ c, ((∑ u, (X u : EReal) * (A u c : EReal)) + β c) * (B c : EReal) := by
  have e1 : ∀ u, (∑ c, (B c : EReal) * (A u c : EReal)) * (X u : EReal) = (((∑ c, B c * A u c) * X u : ℝ) : EReal) := fun u => by
    simp only [← EReal.coe_mul, sum_coe]
  have e2 : ∀ c, ((∑ u, (X u : EReal) * (A u c : EReal)) + β c) * (B c : EReal)
      = (((∑ u, X u * A u c) * B c : ℝ) : EReal) + β c * (B c : EReal) := fun c => by
    simp only [← EReal.coe_mul, sum_coe]
    rw [add_mul_real, EReal.coe_mul]
  simp only [e1, e2, Finset.sum_add_distrib, sum_coe]
  congr 2
  simp only [Finset.sum_mul]
  rw [Finset.sum_comm]
  exact Finset.sum_congr rfl fun c _ => Finset.sum_congr rfl fun u _ => by ring

/-- A sum over 144 places, sixteen at a time. -/
theorem sum_144 (f : Fin 144 → EReal) : (∑ k, f k) = ∑ t : Fin 9, ∑ j : Fin 16, f ⟨16 * t.val + j.val, by omega⟩ := by
  rw [← Finset.sum_product', ← Equiv.sum_comp (finProdFinEquiv (m := 9) (n := 16))]
  refine Finset.sum_congr rfl fun x _ => congrArg f (Fin.ext ?_)
  show x.2.val + 16 * x.1.val = 16 * x.1.val + x.2.val
  omega

/-- A sum over sixteen places of which the last five are zero. -/
theorem sum_16 (f : Fin 16 → EReal) (h : ∀ j : Fin 16, 11 ≤ j.val → f j = 0) :
    (∑ j, f j) = (∑ u : Fin 9, f ⟨u.val, by omega⟩) + f 9 + f 10 := by
  have split : ∀ g : Fin (9 + 7) → EReal, (∑ j, g j) = (∑ u : Fin 9, g ⟨u.val, by omega⟩) + ∑ v : Fin 7, g ⟨9 + v.val, by omega⟩ := fun g => by
    rw [Fin.sum_univ_add]; rfl
  rw [split f, add_assoc]
  congr 1
  rw [Fin.sum_univ_succ, Fin.sum_univ_succ, Finset.sum_eq_zero fun v _ => h _ (by show 11 ≤ 9 + (v.val + 1 + 1); omega), add_zero]
  rfl

/-- The two programs' sums at one place of the result. `I t` says whether tap `t` falls inside the first convolution's
    result, `X t u` is the image's element it meets there. -/
theorem place_eq (I : Fin 9 → Prop) [DecidablePred I] (X : Fin 9 → Fin 9 → EReal) (A : Fin 9 → Fin 64 → EReal) (B : Fin 9 → Fin 64 → EReal)
    (β : Fin 64 → EReal) (γ : EReal) (hX : ∀ t u, ∃ r : ℝ, X t u = r) (hA : ∀ u c, ∃ r : ℝ, A u c = r) (hB : ∀ t c, ∃ r : ℝ, B t c = r)
    (f : Fin 144 → EReal)
    (h0 : ∀ (t : Fin 9) (u : Fin 9), f ⟨16 * t.val + u.val, by omega⟩ = (∑ c, B t c * A u c) * (if I t then X t u else 0))
    (h1 : ∀ t : Fin 9, f ⟨16 * t.val + 9, by omega⟩ = (∑ c, β c * B t c) * (if I t then 1 else 0))
    (h2 : ∀ t : Fin 9, f ⟨16 * t.val + 10, by omega⟩ = if t.val = 0 then γ else 0)
    (h3 : ∀ (t : Fin 9) (j : Fin 16), 11 ≤ j.val → f ⟨16 * t.val + j.val, by omega⟩ = 0) :
    (∑ k, f k) = (∑ t, ∑ c, (if I t then (∑ u, X t u * A u c) + β c else 0) * B t c) + γ := by
  rw [sum_144]
  have e : ∀ t : Fin 9, (∑ j : Fin 16, f ⟨16 * t.val + j.val, by omega⟩)
      = (∑ c, (if I t then (∑ u, X t u * A u c) + β c else 0) * B t c) + if t.val = 0 then γ else 0 := fun t => by
    rw [sum_16 (fun j : Fin 16 => f ⟨16 * t.val + j.val, by omega⟩) (h3 t)]
    have a0 := h0 t
    have a1 := h1 t
    have a2 := h2 t
    rw [show (∑ u : Fin 9, f ⟨16 * t.val + u.val, by omega⟩) = ∑ u, (∑ c, B t c * A u c) * (if I t then X t u else 0) from Finset.sum_congr rfl fun u _ => a0 u]
    refine congrArg₂ (· + ·) ((congrArg₂ (· + ·) rfl a1).trans ?_) a2
    by_cases hI : I t
    · simp only [if_pos hI, mul_one]
      choose x hx using hX t
      choose a ha using hA
      choose b hb using hB t
      simp only [hx, ha, hb]
      exact tap_eq x a b β
    · simp only [if_neg hI, mul_zero, zero_mul, Finset.sum_const_zero, add_zero]
  rw [Finset.sum_congr rfl fun t _ => e t, Finset.sum_add_distrib]
  congr 1
  rw [Fin.sum_univ_succ, Finset.sum_eq_zero fun t _ => if_neg (by show ¬ (t.val + 1 = 0); omega), add_zero]
  rfl

end Cert.Net

end
-- ==== Proof.Place.lean ====
/- One element of the kernel's result block, over the ideal numbers: it is the reference's. -/
module

public import proofs.«01_k».proof.Proof.KiPoint
public import proofs.«01_k».proof.Proof.KiRead
public import proofs.«01_k».proof.Proof.RefValue
public import proofs.«01_k».proof.Proof.Sums

@[expose] public section

set_option maxRecDepth 16384

noncomputable section

namespace Cert.KernelIdeal.Net

open Cert.KernelIdeal Cert.KernelIdeal.Gen
open Idealize.ShloMosaic Idealize.ShloMosaic.TcCoe Idealize.ShloMosaic.Tactic

/-- The product of the weights with a slab, at an index. -/
theorem prod_apply (w : Vec Ideal S32x144 .bf16) (x : Vec Ideal S1x144x4096 .bf16) (o : Fin 32) (p : Fin 4096) :
    (prod w x (ix3 0 o p) : EReal) = ∑ k : Fin 144, w (ix2 o k) * x (ix3 0 k p) := by
  pointwise [prod]

/-- Tap `t` at place `p` falls inside the first convolution's result. -/
abbrev Inside (p : Fin 4096) (t : Fin 9) : Prop :=
  (2 ≤ p.val / 64 + t.val / 3 ∧ p.val / 64 + t.val / 3 < 64) ∧ 2 ≤ p.val % 64 + t.val % 3 ∧ p.val % 64 + t.val % 3 < 64

/-- A tap's number is below ten. -/
theorem tap_lt (t : Fin 9) : t.val < 10 := by omega

/-- A place's line is below 64. -/
theorem line_lt (p : Fin 4096) : p.val / 64 < 64 := by omega

/-- A place's column is below 64. -/
theorem column_lt (p : Fin 4096) : p.val % 64 < 64 := by omega

/-- The image's element that tap `t`, shift `u` meets at place `p`. -/
def met (x : Vec Ideal S256x64x64x1 .f32) (n : Fin 256) (p : Fin 4096) (t u : Fin 9) : EReal :=
  if h : Inside p t then x (ix4 n ⟨p.val / 64 + t.val / 3 - 2 + u.val / 3, by omega⟩ ⟨p.val % 64 + t.val % 3 - 2 + u.val % 3, by omega⟩ 0) else 0

/-- The weights at row `j` of tap `t`. -/
theorem weights_at (w1 : Vec Ideal S3x3x1x64 .f32) (b1 : Vec Ideal S64 .f32) (w2 : Vec Ideal S3x3x64x32 .f32) (b2 : Vec Ideal S32 .f32)
    (o : Fin 32) (t : Fin 9) (j : Fin 16) :
    (weights w1 b1 w2 b2 (ix2 o ⟨16 * t.val + j.val, by omega⟩) : EReal) = table3 w1 b1 w2 b2 (ix3 o t j) := by
  rw [weights_apply]
  exact congrArg₂ (fun a b => table3 w1 b1 w2 b2 (ix3 o a b)) (Fin.ext (by show (16 * t.val + j.val) / 16 = t.val; omega))
    (Fin.ext (by show (16 * t.val + j.val) % 16 = j.val; omega))

section Place

variable (x : Vec Ideal S256x64x64x1 .f32) (n : Fin 256)
  (x1 : Vec Ideal S32x4608 .bf16) (x3 : Vec Ideal S1x4352 .bf16) (x4 : Vec Ideal S10x4096 .bf16) (b : Fin 32) (p : Fin 4096)
  (g1 : ∀ q : Fin 4608, (x1 (ix2 b q) : EReal) = padded x (ix2 n q))
  (g3 : ∀ l : Fin 4352, (x3 (ix2 0 l) : EReal) = if 130 ≤ l.val ∧ l.val < 4098 ∧ (l.val - 130) % 64 < 62 then 1 else 0)
  (g4 : ∀ t : Fin 9, (x4 (ix2 ⟨t.val, tap_lt t⟩ p) : EReal) = if Inside p t then 1 else 0)
  (g5 : (x4 (ix2 9 p) : EReal) = 1)

include g1 g3 in
/-- A slab's shifted rows: the image's element where the tap falls inside, zero where it does not. -/
theorem slab_image (t u : Fin 9) : (slabOf x1 x3 x4 b (ix3 0 ⟨16 * t.val + u.val, by omega⟩ p) : EReal) = if Inside p t then met x n p t u else 0 := by
  have ht := sh_le t.isLt
  have hu := sh_le u.isLt
  have e : (slabOf x1 x3 x4 b (ix3 0 ⟨16 * t.val + u.val, by omega⟩ p) : EReal)
      = (x1 (ix2 b ⟨sh u.val + (sh t.val + p.val), by omega⟩) : EReal) * (x3 (ix2 0 ⟨sh t.val + p.val, by omega⟩) : EReal) := by
    have k1 : (16 * t.val + u.val) % 16 = u.val := by omega
    have k2 : (16 * t.val + u.val) / 16 = t.val := by omega
    have k3 : (b.val * 4352 + sh t.val + p.val) / 4352 = b.val := by omega
    have k4 : (b.val * 4352 + sh t.val + p.val) % 4352 = sh t.val + p.val := by omega
    unfold slabOf
    rw [dif_pos (show ((ix3 0 ⟨16 * t.val + u.val, by omega⟩ p : S1x144x4096.Idx) 1).val % 16 < 9 by show (16 * t.val + u.val) % 16 < 9; omega)]
    unfold rhsOf
    refine congrArg₂ (fun a b : EReal => a * b) (congrArg x1 (congrArg₂ ix2 (Fin.ext ?_) (Fin.ext ?_))) (congrArg x3 (congrArg (ix2 0) (Fin.ext ?_)))
    · show (b.val * 4352 + sh ((16 * t.val + u.val) / 16) + p.val) / 4352 = b.val
      rw [k2, k3]
    · show sh ((16 * t.val + u.val) % 16) + (b.val * 4352 + sh ((16 * t.val + u.val) / 16) + p.val) % 4352 = sh u.val + (sh t.val + p.val)
      rw [k1, k2, k4]
    · show (b.val * 4352 + sh ((16 * t.val + u.val) / 16) + p.val) % 4352 = sh t.val + p.val
      rw [k2, k4]
  rw [e, g1, g3]
  have hl : sh t.val + p.val = 64 * (p.val / 64 + t.val / 3) + (p.val % 64 + t.val % 3) := by unfold sh; omega
  have hb : p.val % 64 + t.val % 3 < 66 := by omega
  have ha : p.val / 64 + t.val / 3 < 66 := by omega
  by_cases hI : Inside p t
  · rw [if_pos hI, if_pos (by show 130 ≤ sh t.val + p.val ∧ sh t.val + p.val < 4098 ∧ (sh t.val + p.val - 130) % 64 < 62; omega), mul_one, padded_apply]
    have hs : sh u.val = 64 * (u.val / 3) + u.val % 3 := rfl
    rw [dif_pos (by show 130 ≤ sh u.val + (sh t.val + p.val) ∧ sh u.val + (sh t.val + p.val) < 4226; omega)]
    unfold met
    rw [dif_pos hI]
    refine congrArg x (congrArg₂ (fun a b => ix4 n a b 0) (Fin.ext ?_) (Fin.ext ?_))
    · show (sh u.val + (sh t.val + p.val) - 130) / 64 = p.val / 64 + t.val / 3 - 2 + u.val / 3
      omega
    · show (sh u.val + (sh t.val + p.val) - 130) % 64 = p.val % 64 + t.val % 3 - 2 + u.val % 3
      omega
  · rw [if_neg hI, if_neg (by show ¬ (130 ≤ sh t.val + p.val ∧ sh t.val + p.val < 4098 ∧ (sh t.val + p.val - 130) % 64 < 62); unfold Inside at hI; omega), mul_zero]

include g4 in
/-- A slab's tenth row of each tap: one where the tap falls inside, zero where it does not. -/
theorem slab_inside (t : Fin 9) : (slabOf x1 x3 x4 b (ix3 0 ⟨16 * t.val + 9, by omega⟩ p) : EReal) = if Inside p t then 1 else 0 := by
  rw [← g4 t]
  unfold slabOf
  rw [dif_neg (show ¬ ((ix3 0 ⟨16 * t.val + 9, by omega⟩ p : S1x144x4096.Idx) 1).val % 16 < 9 by show ¬ (16 * t.val + 9) % 16 < 9; omega)]
  unfold constRow
  rw [if_pos (show ((ix3 0 ⟨16 * t.val + 9, by omega⟩ p : S1x144x4096.Idx) 1).val % 16 = 9 by show (16 * t.val + 9) % 16 = 9; omega)]
  exact congrArg x4 (congrArg₂ ix2 (Fin.ext (by show (16 * t.val + 9) / 16 = t.val; omega)) rfl)

include g5 in
/-- A slab's eleventh row is one. -/
theorem slab_one : (slabOf x1 x3 x4 b (ix3 0 10 p) : EReal) = 1 := by
  rw [← g5]
  unfold slabOf
  rw [dif_neg (show ¬ ((ix3 0 10 p : S1x144x4096.Idx) 1).val % 16 < 9 from (by decide : ¬ 10 % 16 < 9))]
  unfold constRow
  rw [if_neg (show ¬ ((ix3 0 10 p : S1x144x4096.Idx) 1).val % 16 = 9 from (by decide : ¬ 10 % 16 = 9)), if_pos (show ((ix3 0 10 p : S1x144x4096.Idx) 1).val = 10 from rfl)]
  rfl

include g1 g3 g4 g5 in
/-- One element of the block, where the images and both weights are real: the reference's at that image and place. -/
theorem place (w1 : Vec Ideal S3x3x1x64 .f32) (b1 : Vec Ideal S64 .f32) (w2 : Vec Ideal S3x3x64x32 .f32) (b2 : Vec Ideal S32 .f32)
    (f0 : ∀ i, ∃ r : ℝ, (x i : EReal) = r) (f1 : ∀ i, ∃ r : ℝ, (w1 i : EReal) = r) (f3 : ∀ i, ∃ r : ℝ, (w2 i : EReal) = r) (o : Fin 32) :
    (outOf x1 (weights w1 b1 w2 b2) x3 x4 (ix3 b o p) : EReal)
      = Cert.ReferenceIdeal.Net.result x w1 b1 w2 b2 (ix4 n o ⟨p.val / 64, line_lt p⟩ ⟨p.val % 64, column_lt p⟩) := by
  refine (prod_apply (weights w1 b1 w2 b2) (slabOf x1 x3 x4 b) o p).trans ?_
  rw [Cert.ReferenceIdeal.Net.result_apply]
  refine (Cert.Net.place_eq (Inside p) (met x n p) (fun u c => w1 (ix4 ⟨u.val / 3, by omega⟩ ⟨u.val % 3, by omega⟩ 0 c))
    (fun t c => w2 (ix4 ⟨t.val / 3, by omega⟩ ⟨t.val % 3, by omega⟩ c o)) (fun c => b1 (ix1 c)) (b2 (ix1 o)) (fun t u => ?_) (fun u c => f1 _) (fun t c => f3 _)
    (fun k => (weights w1 b1 w2 b2 (ix2 o k) : EReal) * slabOf x1 x3 x4 b (ix3 0 k p)) (fun t u => ?_) (fun t => ?_) (fun t => ?_) (fun t j hj => ?_)).trans ?_
  · unfold met
    by_cases h : Inside p t
    · rw [dif_pos h]; exact f0 _
    · rw [dif_neg h]; exact ⟨0, rfl⟩
  · refine congrArg₂ (fun a b : EReal => a * b) ((weights_at w1 b1 w2 b2 o t ⟨u.val, by omega⟩).trans ?_) (slab_image x n x1 x3 x4 b p g1 g3 t u)
    rw [table3_apply, dif_pos u.isLt, prodW_apply]
  · refine congrArg₂ (fun a b : EReal => a * b) ((weights_at w1 b1 w2 b2 o t 9).trans ?_) (slab_inside x1 x3 x4 b p g4 t)
    rw [table3_apply, dif_neg (by decide), if_pos (show ((9 : Fin 16) : ℕ) = 9 from rfl), prodB_apply]
  · by_cases h : t.val = 0
    · have ht : t = 0 := Fin.ext h
      subst ht
      rw [if_pos h]
      refine (congrArg₂ (fun a b : EReal => a * b) ((weights_at w1 b1 w2 b2 o 0 10).trans ?_) (slab_one x1 x3 x4 b p g5)).trans (mul_one _)
      rw [table3_apply, dif_neg (by decide), if_neg (by decide), if_pos ⟨rfl, rfl⟩]
    · rw [if_neg h]
      refine (congrArg₂ (fun a b : EReal => a * b) ((weights_at w1 b1 w2 b2 o t 10).trans ?_) rfl).trans (zero_mul _)
      rw [table3_apply, dif_neg (by decide), if_neg (by decide), if_neg fun q => h q.1]
  · refine (congrArg₂ (fun a b : EReal => a * b) ((weights_at w1 b1 w2 b2 o t j).trans ?_) rfl).trans (zero_mul _)
    rw [table3_apply, dif_neg (by omega), if_neg (by omega), if_neg (by omega)]
  · refine congrArg₂ (fun a b : EReal => a + b) (Finset.sum_congr rfl fun t _ => Finset.sum_congr rfl fun c _ => congrArg₂ (fun a b : EReal => a * b) ?_ rfl) rfl
    rw [Cert.ReferenceIdeal.Net.inner_apply]
    by_cases h : Inside p t
    · rw [if_pos h, dif_pos h, Cert.ReferenceIdeal.Net.conv_apply]
      refine congrArg₂ (fun a b : EReal => a + b) (Finset.sum_congr rfl fun u _ => congrArg₂ (fun a b : EReal => a * b) ?_ rfl) rfl
      unfold met
      rw [dif_pos h]
    · rw [if_neg h, dif_neg h]

end Place

end Cert.KernelIdeal.Net

end
-- ==== Proof.KiArray.lean ====
/- The kernel's result array and result, over the ideal numbers, where the images and both weights are real. -/
module

public import proofs.«01_k».proof.Proof.KiFrame
public import proofs.«01_k».proof.Proof.KiMarks
public import proofs.«01_k».proof.Proof.Place
public import Idealize.ShloMosaic.Lib.Pipeline.ValueKit

@[expose] public section

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- Every window's block index at a point. -/
theorem idx : ∀ t : Fin cfg0.N, win0_0.index t = ![t.val, 0] ∧ win0_1.index t = ![0, 0] ∧ win0_2.index t = ![0, 0]
    ∧ win0_3.index t = ![0, 0] ∧ win0_4.index t = ![t.val, 0, 0] :=
  (by decide +kernel : ∀ t : Fin grid0.N, _)

/-- The images' block at a point, in the padded images. -/
theorem xin_apply (c : Dev nD) (t : Fin cfg0.N) (b : Fin 32) (q : Fin 4608) (n : Fin 256) (hn : n.val = t.val * 32 + b.val) :
    (xin m c t (ix2 b q) : EReal) = padded (arg0 m c) (ix2 n q) := by
  have e : xin m c t (ix2 b q) = entry m c main_v2 (ix2 n q) := by
    blk_ext [xin, block, idx t]
  rw [e, entry_v2]

/-- The weights' block is the weights. -/
theorem wct_eq (c : Dev nD) (t : Fin cfg0.N) : wct m c t = weights (arg1 m c) (arg2 m c) (arg3 m c) (arg4 m c) := by
  rw [← entry_v19]
  funext y
  blk_ext [wct, block, idx t]

/-- The mask's block at a point. -/
theorem mask_apply (c : Dev nD) (t : Fin cfg0.N) (l : Fin 4352) :
    (mask m c t (ix2 0 l) : EReal) = if 130 ≤ l.val ∧ l.val < 4098 ∧ (l.val - 130) % 64 < 62 then 1 else 0 := by
  have e : mask m c t (ix2 0 l) = entry m c main_v33 (ix2 0 l) := by
    blk_ext [mask, block, idx t]
  rw [e, entry_v33]
  refine (mask_row maskBits l).trans ?_
  rw [maskBits_apply]
  split
  · exact one_bit
  · exact zero_bit

/-- The indicators' block at a point. -/
theorem ind_apply (c : Dev nD) (t : Fin cfg0.N) (k : Fin 10) (p : Fin 4096) :
    (ind m c t (ix2 k p) : EReal) = ((indBits (ix2 k p)).toNat : ℝ) := by
  have e : ind m c t (ix2 k p) = entry m c main_v335 (ix2 k p) := by
    blk_ext [ind, block, idx t]
  rw [e, entry_v335]
  exact ind_row k p

/-- The result of the reference over the kernel's arguments. -/
abbrev wanted (c : Dev nD) : Vec Ideal S256x32x64x64 .f32 :=
  Cert.ReferenceIdeal.Net.result (arg0 m c) (arg1 m c) (arg2 m c) (arg3 m c) (arg4 m c)

/-- The region's result array: `wanted`, its last two axes as one. -/
def flat (c : Dev nD) : Vec Ideal S256x32x4096 .f32 := fun y =>
  wanted m c (ix4 (y 0) (y 1) ⟨(y 2).val / 64, line_lt (y 2)⟩ ⟨(y 2).val % 64, column_lt (y 2)⟩)

variable (f0 : ∀ c i, ∃ r : ℝ, (arg0 m c i : EReal) = r) (f1 : ∀ c i, ∃ r : ℝ, (arg1 m c i : EReal) = r)
  (f3 : ∀ c i, ∃ r : ℝ, (arg3 m c i : EReal) = r)

include f0 f1 f3 in
/-- A point's result block at an index. -/
theorem outAt_apply (c : Dev nD) (t : Fin cfg0.N) (b o : Fin 32) (p : Fin 4096) (n : Fin 256) (hn : n.val = t.val * 32 + b.val) :
    (outAt m c t (ix3 b o p) : EReal) = flat m c (ix3 n o p) := by
  unfold outAt
  rw [wct_eq]
  exact place (arg0 m c) n (xin m c t) (mask m c t) (ind m c t) b p (fun q => xin_apply m c t b q n hn) (mask_apply m c t)
    (fun k => by
      rw [ind_apply, indBits_apply]
      split
      · exact one_bit
      · exact zero_bit)
    (by rw [ind_apply, indBits_last]; exact one_bit) _ _ _ _ (f0 c) (f1 c) (f3 c) o

include f0 f1 f3 in
/-- The region's result array at the end. -/
theorem array_eq (c : Dev nD) : (dats m 0 c).arrAt 4 cfg0.N = flat m c := by
  refine (dats m 0 c).arrAt_eq_of_covers 4 _ (by decide +kernel) fun t hf y => ?_
  blk_simp
  rw [after4]
  have ht : t.val < 8 := t.isLt
  have hy : (y 0).val < 32 := (y 0).isLt
  refine (congrArg (outAt m c t) (eq_ix3 (n0 := 32) (n1 := 32) (n2 := 4096) y)).trans ?_
  refine (outAt_apply m f0 f1 f3 c t (y 0) (y 1) (y 2) ⟨t.val * 32 + (y 0).val, by omega⟩ rfl).trans ?_
  refine congrArg (flat m c) ?_
  funext a
  apply Fin.ext
  blk_simp [idx t]
  match a with
  | ⟨0, _⟩ => rfl
  | ⟨1, _⟩ => exact (Nat.zero_add _).symm.trans (congrArg (· + (y 1).val) (Nat.zero_mul _).symm)
  | ⟨2, _⟩ => exact (Nat.zero_add _).symm.trans (congrArg (· + (y 2).val) (Nat.zero_mul _).symm)

/-- The reshape's result. -/
theorem tail_read (c : Dev nD) (G : Vec Ideal S256x32x4096 .f32) (hG : (dats m 0 c).arrAt 4 cfg0.N = G) :
    Pipeline.afterTail₀ cfgs (dats m) 0 (atEntry m) [hostOps1] c main_v337 = shapeCast S256x32x64x64 G shapeCasts_S256x32x4096_S256x32x64x64 := by
  subst hG
  unfold Pipeline.afterTail₀
  after_reads_simp
  exact congrArg (fun v => shapeCast S256x32x64x64 v shapeCasts_S256x32x4096_S256x32x64x64)
    (Pipeline.withArrays_arr spec0 (by decide) c (atEntry m c) (fun w => (dats m 0 c).arrAt w (cfgs 0).N) 4)

/-- The array's last axis split in two is `wanted`. -/
theorem split_eq (c : Dev nD) : shapeCast S256x32x64x64 (flat m c) shapeCasts_S256x32x4096_S256x32x64x64 = wanted m c := by
  funext y
  rw [eq_ix4 y]
  pointwise [flat]
  have h3 : (y 3).val < 64 := (y 3).isLt
  refine congrArg (wanted m c) (Eq.trans ?_ (eq_ix4 y).symm)
  refine congrArg₂ (fun a b => ix4 (y 0) (y 1) a b) (Fin.ext ?_) (Fin.ext ?_)
  · show ((y 2).val * 64 + (y 3).val) / 64 = (y 2).val
    omega
  · show ((y 2).val * 64 + (y 3).val) % 64 = (y 3).val
    omega

include f0 f1 f3 in
/-- @main ends, its result `wanted` and its arguments as launched. -/
theorem result_run (ρ : Dev nD → PrngReg) : θ_run defs (onTc (τ := τ) (main (F := Ideal))) ⟨m, fun _ => 0, ρ⟩ (fun r => ∀ c : Dev nD,
      r.2.mem ((c.tc : Thread nD τ).loc main_v337) = wanted m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).2 main_v337 (Pipeline.mem_restRefs_of main_v337 (by decide) (by decide))).trans
      ((tail_read m c (flat m c) (array_eq m f0 f1 f3 c)).trans (split_eq m c)), args_kept m h.1 c⟩) (run_main m ρ)

end Cert.KernelIdeal.Net

end
-- ==== Proof.Finite.lean ====
/- What the precondition says of the ideal kernel's arguments: the images and both weights are real. -/
module

public import proofs.«01_k».proof.Defs
public import Idealize.ShloMosaic.Lib.Pointwise

@[expose] public section

noncomputable section

namespace Cert.Pre_finite_inputs

open Idealize.ShloMosaic

/-- The side conditions of the precondition's operations. -/
theorem facts : Facts := ⟨by decide, by decide, by decide⟩

/-- An extended real whose absolute value is below `+∞` is real. -/
theorem real_of_bit (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

end Cert.Pre_finite_inputs

namespace Cert.KernelIdeal.Net

open Idealize.ShloMosaic Cert.KernelIdeal

variable [Cert.Pre_finite_inputs.Facts] {m : (ℓ : Loc nD τ sig) → Buf (Elt Ideal) ℓ} (h : Cert.Pre_KernelIdeal_finite_inputs m) (c : Dev nD)

include h c

/-- The images are real. -/
theorem real0 (i : S256x64x64x1.Idx) : ∃ r : ℝ, @Eq EReal ((m ((c.tc : Thread nD τ).loc main_arg0) : Vec Ideal S256x64x64x1 .f32) i) (r : EReal) :=
  Cert.Pre_finite_inputs.real_of_bit _ (congrFun (h c).1 i)

/-- The first weights are real. -/
theorem real1 (i : S3x3x1x64.Idx) : ∃ r : ℝ, @Eq EReal ((m ((c.tc : Thread nD τ).loc main_arg1) : Vec Ideal S3x3x1x64 .f32) i) (r : EReal) :=
  Cert.Pre_finite_inputs.real_of_bit _ (congrFun (h c).2.1 i)

/-- The second weights are real. -/
theorem real3 (i : S3x3x64x32.Idx) : ∃ r : ℝ, @Eq EReal ((m ((c.tc : Thread nD τ).loc main_arg3) : Vec Ideal S3x3x64x32 .f32) i) (r : EReal) :=
  Cert.Pre_finite_inputs.real_of_bit _ (congrFun (h c).2.2 i)

end Cert.KernelIdeal.Net

end
-- ==== Proof.lean ====
/- The proof of the claims about the kernel: it ends by the claim itself, put together from the kernel's runs, the
   reference's run and the equation between what they compute. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KbFrame
public import proofs.«01_k».proof.Proof.KiArray
public import proofs.«01_k».proof.Proof.Finite

@[expose] public section

noncomputable section

namespace Cert.Proof

open Idealize.ShloMosaic Idealize.SL.Sem

/-- The kernel runs, leaves its arguments as they were and every counter at zero. -/
theorem kernel_quiet : Cert.quiescent_Kernel := fun m g _ => Cert.Kernel.Net.quiet m g

/-- The idealized kernel runs, leaves its arguments as they were and every counter at zero. -/
theorem ideal_quiet : Cert.quiescent_KernelIdeal := fun m g _ => Cert.KernelIdeal.Net.quiet m g

/-- The reference runs and leaves its arguments as they were; it has no counters. -/
theorem reference_quiet : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The idealized kernel's frame under the precondition. -/
theorem ideal_quiet_pre [Cert.Pre_finite_inputs.Facts] : Cert.quiescent_KernelIdeal_pre_finite_inputs := fun m g _ => ideal_quiet m g trivial

/-- The reference's frame under the precondition. -/
theorem reference_quiet_pre [Cert.Pre_finite_inputs.Facts] : Cert.quiescent_ReferenceIdeal_pre_finite_inputs := fun m g _ =>
  reference_quiet m g trivial

/-- From real images and real weights the idealized kernel and the reference end with one result. -/
theorem equal_results [Cert.Pre_finite_inputs.Facts] : Cert.algebraic_KernelIdeal_ReferenceIdeal_pre_finite_inputs := by
  intro m g m' g' hpre hargs
  refine ⟨fun c => Cert.KernelIdeal.Net.wanted m c, Cert.KernelIdeal.Net.result_run m (fun c => Cert.KernelIdeal.Net.real0 hpre c)
    (fun c => Cert.KernelIdeal.Net.real1 hpre c) (fun c => Cert.KernelIdeal.Net.real3 hpre c) g, ?_⟩
  refine (θ_run Cert.ReferenceIdeal.defs _ _).mono (fun r h c => ⟨(h c).1.trans ?_, (h c).2⟩) (Cert.ReferenceIdeal.Value.run (F := Ideal) m' g')
  rw [Cert.ReferenceIdeal.Net.res_eq, (hargs c).1, (hargs c).2.1, (hargs c).2.2.1, (hargs c).2.2.2.1, (hargs c).2.2.2.2]

/-- Every claim of the certificate. -/
theorem claim : Cert.Claim :=
  ⟨Cert.Kernel.Gen.facts, Cert.KernelIdeal.Gen.facts, Cert.ReferenceIdeal.Gen.facts, Cert.Pre_finite_inputs.facts,
    kernel_quiet, ideal_quiet, @ideal_quiet_pre Cert.Pre_finite_inputs.facts, reference_quiet,
    @reference_quiet_pre Cert.Pre_finite_inputs.facts, trivial, @equal_results Cert.Pre_finite_inputs.facts⟩

end Cert.Proof

end
